-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Table (m : (ℓ : Loc Cert.Table.nD Cert.Table.τ Cert.Table.sig) → Buf (Elt Bits) ℓ) : Prop :=
  True

def Pre_TableReference (m : (ℓ : Loc Cert.TableReference.nD Cert.TableReference.τ Cert.TableReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0))
      ∧ r.2.sem = fun _ => 0)

def quiescent_TableReference [hTableReference : Cert.TableReference.Facts] : Prop :=
  ∀ (m : (ℓ : Loc Cert.TableReference.nD Cert.TableReference.τ Cert.TableReference.sig) → Buf (Elt Bits) ℓ) (g : Dev Cert.TableReference.nD → PrngReg), Pre_TableReference m →
    θ_run (Cert.TableReference.defs (F := Bits)) (onTc (τ := Cert.TableReference.τ) (Cert.TableReference.main (F := Bits))) ⟨m, fun _ => 0, g⟩ (fun r => (∀ c : Dev Cert.TableReference.nD,
      r.2.mem ((c.tc : Thread Cert.TableReference.nD Cert.TableReference.τ).loc Cert.TableReference.main_arg0) = m ((c.tc : Thread Cert.TableReference.nD Cert.TableReference.τ).loc Cert.TableReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Table_TableReference [hTable : Cert.Table.Facts] [hTableReference : Cert.TableReference.Facts] : Prop :=
  ∀ (m : (ℓ : Loc Cert.Table.nD Cert.Table.τ Cert.Table.sig) → Buf (Elt Bits) ℓ) (g : Dev Cert.Table.nD → PrngReg)
    (m' : (ℓ : Loc Cert.TableReference.nD Cert.TableReference.τ Cert.TableReference.sig) → Buf (Elt Bits) ℓ) (g' : Dev Cert.TableReference.nD → PrngReg), Pre_Table m →
    (∀ c : Dev Cert.Table.nD,
      m' ((c.tc : Thread Cert.TableReference.nD Cert.TableReference.τ).loc Cert.TableReference.main_arg0) = m ((c.tc : Thread Cert.Table.nD Cert.Table.τ).loc Cert.Table.main_arg0)) →
    ∃ (v0 : (c : Dev Cert.Table.nD) → Buf (Elt Bits) ((c.tc : Thread Cert.Table.nD Cert.Table.τ).loc Cert.Table.main_v1)),
      θ_run (Cert.Table.defs (F := Bits)) (onTc (τ := Cert.Table.τ) (Cert.Table.main (F := Bits))) ⟨m, fun _ => 0, g⟩ (fun r => ∀ c : Dev Cert.Table.nD,
          r.2.mem ((c.tc : Thread Cert.Table.nD Cert.Table.τ).loc Cert.Table.main_v1) = v0 c
          ∧ r.2.mem ((c.tc : Thread Cert.Table.nD Cert.Table.τ).loc Cert.Table.main_arg0) = m ((c.tc : Thread Cert.Table.nD Cert.Table.τ).loc Cert.Table.main_arg0))
      ∧ θ_run (Cert.TableReference.defs (F := Bits)) (onTc (τ := Cert.TableReference.τ) (Cert.TableReference.main (F := Bits))) ⟨m', fun _ => 0, g'⟩ (fun r => ∀ c : Dev Cert.TableReference.nD,
          r.2.mem ((c.tc : Thread Cert.TableReference.nD Cert.TableReference.τ).loc Cert.TableReference.main_v6) = v0 c
          ∧ r.2.mem ((c.tc : Thread Cert.TableReference.nD Cert.TableReference.τ).loc Cert.TableReference.main_arg0) = m' ((c.tc : Thread Cert.TableReference.nD Cert.TableReference.τ).loc Cert.TableReference.main_arg0))

def Claim : Prop :=
  ∃ (hKernel : Cert.Kernel.Facts) (hKernelIdeal : Cert.KernelIdeal.Facts) (hReferenceIdeal : Cert.ReferenceIdeal.Facts) (hTable : Cert.Table.Facts) (hTableReference : Cert.TableReference.Facts),
    quiescent_Kernel (hKernel := hKernel)
    ∧ quiescent_KernelIdeal (hKernelIdeal := hKernelIdeal)
    ∧ quiescent_ReferenceIdeal (hReferenceIdeal := hReferenceIdeal)
    ∧ quiescent_Table (hTable := hTable)
    ∧ quiescent_TableReference (hTableReference := hTableReference)
    ∧ preserves_Kernel_KernelIdeal
    ∧ algebraic_KernelIdeal_ReferenceIdeal (hKernelIdeal := hKernelIdeal) (hReferenceIdeal := hReferenceIdeal)
    ∧ bitexact_Table_TableReference (hTable := hTable) (hTableReference := hTableReference)
-- ==== Kernel.lean ====
abbrev S8x27x8192x128 : Shape := ⟨4, ![8, 27, 8192, 128]⟩
abbrev S1 : Shape := ⟨1, ![1]⟩
abbrev S27x32x64 : Shape := ⟨3, ![27, 32, 64]⟩
abbrev S27x64 : Shape := ⟨2, ![27, 64]⟩
abbrev S64 : Shape := ⟨1, ![64]⟩
abbrev S_ : Shape := ⟨0, ![]⟩
abbrev S32x64x32 : Shape := ⟨3, ![32, 64, 32]⟩
abbrev S27x64x32 : Shape := ⟨3, ![27, 64, 32]⟩
abbrev S4x8x64x1x32 : Shape := ⟨5, ![4, 8, 64, 1, 32]⟩
abbrev S8x8 : Shape := ⟨2, ![8, 8]⟩
abbrev S1x8x1x8x1 : Shape := ⟨5, ![1, 8, 1, 8, 1]⟩
abbrev S4x8x64x8x32 : Shape := ⟨5, ![4, 8, 64, 8, 32]⟩
abbrev S4x512x256 : Shape := ⟨3, ![4, 512, 256]⟩
abbrev S27x64x1 : Shape := ⟨3, ![27, 64, 1]⟩
abbrev S27x64x128 : Shape := ⟨3, ![27, 64, 128]⟩
abbrev S64x1 : Shape := ⟨2, ![64, 1]⟩
abbrev S64x128 : Shape := ⟨2, ![64, 128]⟩
abbrev S8x64x131072 : Shape := ⟨3, ![8, 64, 131072]⟩
abbrev S1x27x128x128 : Shape := ⟨4, ![1, 27, 128, 128]⟩
abbrev S1x64x2048 : Shape := ⟨3, ![1, 64, 2048]⟩
abbrev S27x128x128 : Shape := ⟨3, ![27, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x256 : Shape := ⟨2, ![64, 256]⟩
abbrev S1x8x128 : Shape := ⟨3, ![1, 8, 128]⟩
abbrev S8x128 : Shape := ⟨2, ![8, 128]⟩
abbrev S32x128 : Shape := ⟨2, ![32, 128]⟩
abbrev S32x256 : Shape := ⟨2, ![32, 256]⟩
abbrev S256x256 : Shape := ⟨2, ![256, 256]⟩
abbrev S1x512x256 : Shape := ⟨3, ![1, 512, 256]⟩
abbrev S512x256 : Shape := ⟨2, ![512, 256]⟩
abbrev S1x64x128 : Shape := ⟨3, ![1, 64, 128]⟩
abbrev S96x256 : Shape := ⟨2, ![96, 256]⟩
abbrev S1x192x96 : Shape := ⟨3, ![1, 192, 96]⟩
abbrev S192x96 : Shape := ⟨2, ![192, 96]⟩
abbrev S192x256 : Shape := ⟨2, ![192, 256]⟩
abbrev S1x64x256 : Shape := ⟨3, ![1, 64, 256]⟩

abbrev nBuf : Space → Nat
  | .hbm => 32
  | .vmem => 8
  | .smem => 1
  | _ => 0

abbrev bufTy : (tb : Table) → Fin (tcTables nBuf tb) → BufTy
  | .hbm, ⟨0, _⟩ => ⟨S8x27x8192x128, .i32⟩
  | .hbm, ⟨1, _⟩ => ⟨S1, .f32⟩
  | .hbm, ⟨2, _⟩ => ⟨S27x32x64, .fp8e4m3⟩
  | .hbm, ⟨3, _⟩ => ⟨S27x64, .f32⟩
  | .hbm, ⟨4, _⟩ => ⟨S64, .f32⟩
  | .hbm, ⟨5, _⟩ => ⟨S_, .i8⟩
  | .hbm, ⟨6, _⟩ => ⟨S32x64x32, .i8⟩
  | .hbm, ⟨7, _⟩ => ⟨S32x64x32, .fp8e4m3⟩
  | .hbm, ⟨8, _⟩ => ⟨S27x64x32, .fp8e4m3⟩
  | .hbm, ⟨9, _⟩ => ⟨S_, .i32⟩
  | .hbm, ⟨10, _⟩ => ⟨S1, .i32⟩
  | .hbm, ⟨11, _⟩ => ⟨S32x64x32, .fp8e4m3⟩
  | .hbm, ⟨12, _⟩ => ⟨S4x8x64x1x32, .fp8e4m3⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S1x8x1x8x1, .i1⟩
  | .hbm, ⟨20, _⟩ => ⟨S_, .i8⟩
  | .hbm, ⟨21, _⟩ => ⟨S_, .fp8e4m3⟩
  | .hbm, ⟨22, _⟩ => ⟨S4x8x64x8x32, .i1⟩
  | .hbm, ⟨23, _⟩ => ⟨S4x8x64x8x32, .fp8e4m3⟩
  | .hbm, ⟨24, _⟩ => ⟨S4x8x64x8x32, .fp8e4m3⟩
  | .hbm, ⟨25, _⟩ => ⟨S4x8x64x8x32, .fp8e4m3⟩
  | .hbm, ⟨26, _⟩ => ⟨S4x512x256, .fp8e4m3⟩
  | .hbm, ⟨27, _⟩ => ⟨S27x64x1, .f32⟩
  | .hbm, ⟨28, _⟩ => ⟨S27x64x128, .f32⟩
  | .hbm, ⟨29, _⟩ => ⟨S64x1, .f32⟩
  | .hbm, ⟨30, _⟩ => ⟨S64x128, .f32⟩
  | .hbm, ⟨31, _⟩ => ⟨S8x64x131072, .f32⟩
  | .local _ .vmem, ⟨0, _⟩ => ⟨S1x27x128x128, .i32⟩
  | .local _ .vmem, ⟨1, _⟩ => ⟨S1x27x128x128, .i32⟩
  | .local _ .vmem, ⟨2, _⟩ => ⟨S4x512x256, .fp8e4m3⟩
  | .local _ .vmem, ⟨3, _⟩ => ⟨S27x64x128, .f32⟩
  | .local _ .vmem, ⟨4, _⟩ => ⟨S64x128, .f32⟩
  | .local _ .vmem, ⟨5, _⟩ => ⟨S1x64x2048, .f32⟩
  | .local _ .vmem, ⟨6, _⟩ => ⟨S1x64x2048, .f32⟩
  | .local _ .vmem, ⟨7, _⟩ => ⟨S27x128x128, .i32⟩
  | .local _ .smem, ⟨0, _⟩ => ⟨S1, .f32⟩
  | _, _ => ⟨S8x27x8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x27x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S27x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x27x8192x128 : Shape := ⟨4, ![8, 27, 8192, 128]⟩
abbrev S1 : Shape := ⟨1, ![1]⟩
abbrev S27x32x64 : Shape := ⟨3, ![27, 32, 64]⟩
abbrev S27x64 : Shape := ⟨2, ![27, 64]⟩
abbrev S64 : Shape := ⟨1, ![64]⟩
abbrev S8x27x64x128x16x8 : Shape := ⟨6, ![8, 27, 64, 128, 16, 8]⟩
abbrev S27x8x64x16x128x8 : Shape := ⟨6, ![27, 8, 64, 16, 128, 8]⟩
abbrev S27x1048576x8 : Shape := ⟨3, ![27, 1048576, 8]⟩
abbrev S27x1048576x8x4 : Shape := ⟨4, ![27, 1048576, 8, 4]⟩
abbrev S27x1048576x32 : Shape := ⟨3, ![27, 1048576, 32]⟩
abbrev S1x64 : Shape := ⟨2, ![1, 64]⟩
abbrev S8x64x131072 : Shape := ⟨3, ![8, 64, 131072]⟩
abbrev S27x1048576x64 : Shape := ⟨3, ![27, 1048576, 64]⟩
abbrev S27x1x64 : Shape := ⟨3, ![27, 1, 64]⟩
abbrev S1048576x64 : Shape := ⟨2, ![1048576, 64]⟩
abbrev S8x131072x64 : Shape := ⟨3, ![8, 131072, 64]⟩

abbrev nBuf : Space → Nat
  | .hbm => 12
  | .vmem => 5
  | .smem => 1
  | _ => 0

abbrev bufTy : (tb : Table) → Fin (tcTables nBuf tb) → BufTy
  | .hbm, ⟨0, _⟩ => ⟨S8x27x8192x128, .i32⟩
  | .hbm, ⟨1, _⟩ => ⟨S1, .f32⟩
  | .hbm, ⟨2, _⟩ => ⟨S27x32x64, .fp8e4m3⟩
  | .hbm, ⟨3, _⟩ => ⟨S27x64, .f32⟩
  | .hbm, ⟨4, _⟩ => ⟨S64, .f32⟩
  | .hbm, ⟨5, _⟩ => ⟨S8x27x64x128x16x8, .i32⟩
  | .hbm, ⟨6, _⟩ => ⟨S27x8x64x16x128x8, .i32⟩
  | .hbm, ⟨7, _⟩ => ⟨S27x1048576x8, .i32⟩
  | .hbm, ⟨8, _⟩ => ⟨S27x1048576x8x4, .fp8e4m3⟩
  | .hbm, ⟨9, _⟩ => ⟨S27x1048576x32, .fp8e4m3⟩
  | .hbm, ⟨10, _⟩ => ⟨S1x64, .f32⟩
  | .hbm, ⟨11, _⟩ => ⟨S8x64x131072, .f32⟩
  | .local _ .vmem, ⟨0, _⟩ => ⟨S27x1048576x32, .fp8e4m3⟩
  | .local _ .vmem, ⟨1, _⟩ => ⟨S27x32x64, .fp8e4m3⟩
  | .local _ .vmem, ⟨2, _⟩ => ⟨S27x64, .f32⟩
  | .local _ .vmem, ⟨3, _⟩ => ⟨S1x64, .f32⟩
  | .local _ .vmem, ⟨4, _⟩ => ⟨S8x64x131072, .f32⟩
  | .local _ .smem, ⟨0, _⟩ => ⟨S1, .f32⟩
  | _, _ => ⟨S8x27x8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S27x1048576x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x32x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64x131072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Table.lean ====
abbrev S8x131072x32 : Shape := ⟨3, ![8, 131072, 32]⟩
abbrev S8x32x131072 : Shape := ⟨3, ![8, 32, 131072]⟩
abbrev S8x8320x128 : Shape := ⟨3, ![8, 8320, 128]⟩
abbrev S1x32x2048 : Shape := ⟨3, ![1, 32, 2048]⟩
abbrev S1x128x128 : Shape := ⟨3, ![1, 128, 128]⟩
abbrev S32x2048 : Shape := ⟨2, ![32, 2048]⟩
abbrev S8x2048 : Shape := ⟨2, ![8, 2048]⟩
abbrev S8x128 : Shape := ⟨2, ![8, 128]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x131072x32, .fp8e4m3⟩
  | .hbm, ⟨1, _⟩ => ⟨S8x32x131072, .fp8e4m3⟩
  | .hbm, ⟨2, _⟩ => ⟨S8x8320x128, .i32⟩
  | .local _ .vmem, ⟨0, _⟩ => ⟨S1x32x2048, .fp8e4m3⟩
  | .local _ .vmem, ⟨1, _⟩ => ⟨S1x32x2048, .fp8e4m3⟩
  | .local _ .vmem, ⟨2, _⟩ => ⟨S1x128x128, .i32⟩
  | .local _ .vmem, ⟨3, _⟩ => ⟨S1x128x128, .i32⟩
  | _, _ => ⟨S8x131072x32, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![8, 65], ![false, false]⟩

def k0_cond1 (i : grid0.Coords) : BitVec 1 :=
  let arg1 : BitVec 32 := BitVec.ofNat 32 (i 1).val
  let c64_i32 : BitVec 32 := 64#32
  let v0 : BitVec 1 := Scalar.cmpi .eq arg1 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c64_i32 : BitVec 32 := 64#32
  let v0 : BitVec 1 := Scalar.cmpi .eq arg1 c64_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== TableReference.lean ====
abbrev S8x131072x32 : Shape := ⟨3, ![8, 131072, 32]⟩
abbrev S8x131072x8x4 : Shape := ⟨4, ![8, 131072, 8, 4]⟩
abbrev S8x131072x8 : Shape := ⟨3, ![8, 131072, 8]⟩
abbrev S8x64x16x128x8 : Shape := ⟨5, ![8, 64, 16, 128, 8]⟩
abbrev S8x64x128x16x8 : Shape := ⟨5, ![8, 64, 128, 16, 8]⟩
abbrev S8x8192x128 : Shape := ⟨3, ![8, 8192, 128]⟩
abbrev S_ : Shape := ⟨0, ![]⟩
abbrev S8x128x128 : Shape := ⟨3, ![8, 128, 128]⟩
abbrev S8x8320x128 : Shape := ⟨3, ![8, 8320, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x131072x32, .fp8e4m3⟩
  | .hbm, ⟨1, _⟩ => ⟨S8x131072x8x4, .fp8e4m3⟩
  | .hbm, ⟨2, _⟩ => ⟨S8x131072x8, .i32⟩
  | .hbm, ⟨3, _⟩ => ⟨S8x64x16x128x8, .i32⟩
  | .hbm, ⟨4, _⟩ => ⟨S8x64x128x16x8, .i32⟩
  | .hbm, ⟨5, _⟩ => ⟨S8x8192x128, .i32⟩
  | .hbm, ⟨6, _⟩ => ⟨S_, .i32⟩
  | .hbm, ⟨7, _⟩ => ⟨S8x128x128, .i32⟩
  | .hbm, ⟨8, _⟩ => ⟨S8x8320x128, .i32⟩
  | _, _ => ⟨S8x131072x32, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [BitOps F]
-- ==== Proof.Body.lean ====
/- What one grid point of the convolution stores, as ONE term per 256-voxel tile: the eight tiles of a point are the
   same chain of operations over their own words of the gathered rows. -/
module

public import proofs.«01_k».proof.Proof.Gen.KernelIdeal.Value
public import Idealize.ShloMosaic.Lib.Pipeline.ValueKit

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F]

/-- Eight rows of words read as thirty-two rows of one-byte floats. -/
def half (v : Vec F S1x8x128 .i32) : FVec F S32x128 .fp8e4m3 :=
  bitcastToFloat .fp8e4m3 (bitcast S32x128 8 (shapeCast S8x128 v shapeCasts_S1x8x128_S8x128) bitcasts_S8x128_w32_S32x128_w8)

/-- The channels of 256 voxels: two halves of 128, side by side. -/
def pair (lo hi : Vec F S1x8x128 .i32) : FVec F S32x256 .fp8e4m3 :=
  concatenate S32x256 1 [⟨S32x128, half lo⟩, ⟨S32x128, half hi⟩] concatenates_S32x128_S32x128_S32x256_d1

/-- The products of a group of eight offsets. -/
def prodA (w : Vec F S1x512x256 .fp8e4m3) (x0 x1 x2 x3 x4 x5 x6 x7 : FVec F S32x256 .fp8e4m3) : FVec F S512x256 .f32 :=
  matmul dot_S512x256_S256x256_S512x256_1_0_0_1_n_n none (shapeCast S512x256 w shapeCasts_S1x512x256_S512x256)
    (concatenate S256x256 0 [⟨S32x256, x0⟩, ⟨S32x256, x1⟩, ⟨S32x256, x2⟩, ⟨S32x256, x3⟩, ⟨S32x256, x4⟩, ⟨S32x256, x5⟩, ⟨S32x256, x6⟩, ⟨S32x256, x7⟩]
      concatenates_S32x256_S32x256_S32x256_S32x256_S32x256_S32x256_S32x256_S32x256_S256x256_d0)
    (constant S512x256 .f32 0x00000000#32)

/-- The products of the last three offsets. -/
def prodB (w : Vec F S1x192x96 .fp8e4m3) (x0 x1 x2 : FVec F S32x256 .fp8e4m3) : FVec F S192x256 .f32 :=
  matmul dot_S192x96_S96x256_S192x256_1_0_0_1_n_n none (shapeCast S192x96 w shapeCasts_S1x192x96_S192x96)
    (concatenate S96x256 0 [⟨S32x256, x0⟩, ⟨S32x256, x1⟩, ⟨S32x256, x2⟩] concatenates_S32x256_S32x256_S32x256_S96x256_d0)
    (constant S192x256 .f32 0x00000000#32)

/-- A row scale for 256 voxels: the stored 128 columns twice. -/
def scale2 (s : Vec F S1x64x128 .f32) : FVec F S64x256 .f32 :=
  concatenate S64x256 1 [⟨S64x128, shapeCast S64x128 s shapeCasts_S1x64x128_S64x128⟩, ⟨S64x128, shapeCast S64x128 s shapeCasts_S1x64x128_S64x128⟩]
    concatenates_S64x128_S64x128_S64x256_d1

/-- One offset's rows of a group's products, scaled and added to the sum so far. -/
def stepA (o : Nat) (h : S512x256.Slices ![o, 0] S64x256) (acc : FVec F S64x256 .f32) (p : FVec F S512x256 .f32) (s : Vec F S1x64x128 .f32) :
    FVec F S64x256 .f32 :=
  addf acc (mulf (extractStridedSlice S64x256 ![o, 0] p h) (scale2 s))

/-- The same for the last three offsets. -/
def stepB (o : Nat) (h : S192x256.Slices ![o, 0] S64x256) (acc : FVec F S64x256 .f32) (p : FVec F S192x256 .f32) (s : Vec F S1x64x128 .f32) :
    FVec F S64x256 .f32 :=
  addf acc (mulf (extractStridedSlice S64x256 ![o, 0] p h) (scale2 s))

/-- A group's eight offsets added to the sum so far. -/
def groupA (acc : FVec F S64x256 .f32) (p : FVec F S512x256 .f32) (s0 s1 s2 s3 s4 s5 s6 s7 : Vec F S1x64x128 .f32) : FVec F S64x256 .f32 :=
  stepA 448 slices_S512x256_o448_0_S64x256 (stepA 384 slices_S512x256_o384_0_S64x256 (stepA 320 slices_S512x256_o320_0_S64x256 (stepA 256 slices_S512x256_o256_0_S64x256 (stepA 192 slices_S512x256_o192_0_S64x256 (stepA 128 slices_S512x256_o128_0_S64x256 (stepA 64 slices_S512x256_o64_0_S64x256 (stepA 0 slices_S512x256_o0_0_S64x256 acc p s0) p s1) p s2) p s3) p s4) p s5) p s6) p s7

/-- The last three offsets added to the sum so far. -/
def groupB (acc : FVec F S64x256 .f32) (p : FVec F S192x256 .f32) (s0 s1 s2 : Vec F S1x64x128 .f32) : FVec F S64x256 .f32 :=
  stepB 128 slices_S192x256_o128_0_S64x256 (stepB 64 slices_S192x256_o64_0_S64x256 (stepB 0 slices_S192x256_o0_0_S64x256 acc p s0) p s1) p s2

/-- The end of a tile: the activations' scale and the bias. -/
def fin (acc : FVec F S64x256 .f32) (b : Vec F S64x128 .f32) (xs : Elt F .f32) : FVec F S1x64x256 .f32 :=
  shapeCast S1x64x256 (addf (mulf acc (broadcast S64x256 xs))
    (concatenate S64x256 1 [⟨S64x128, shapeCast S64x128 b shapeCasts_S64x128_S64x128⟩, ⟨S64x128, shapeCast S64x128 b shapeCasts_S64x128_S64x128⟩]
      concatenates_S64x128_S64x128_S64x256_d1)) shapeCasts_S64x256_S1x64x256

/-- One tile of the result from the words and the operands it reads. -/
def tile (x : Fin 27 → FVec F S32x256 .fp8e4m3) (w : Fin 3 → Vec F S1x512x256 .fp8e4m3) (w3 : Vec F S1x192x96 .fp8e4m3)
    (s : Fin 27 → Vec F S1x64x128 .f32) (b : Vec F S64x128 .f32) (xs : Elt F .f32) : FVec F S1x64x256 .f32 :=
  fin (groupB (groupA (groupA (groupA (broadcast S64x256 (Scalar.ofBits .f32 0x00000000#32)) (prodA (w ⟨0, by decide⟩) (x ⟨0, by decide⟩) (x ⟨1, by decide⟩) (x ⟨2, by decide⟩) (x ⟨3, by decide⟩) (x ⟨4, by decide⟩) (x ⟨5, by decide⟩) (x ⟨6, by decide⟩) (x ⟨7, by decide⟩))
    (s ⟨0, by decide⟩) (s ⟨1, by decide⟩) (s ⟨2, by decide⟩) (s ⟨3, by decide⟩) (s ⟨4, by decide⟩) (s ⟨5, by decide⟩) (s ⟨6, by decide⟩) (s ⟨7, by decide⟩)) (prodA (w ⟨1, by decide⟩) (x ⟨8, by decide⟩) (x ⟨9, by decide⟩) (x ⟨10, by decide⟩) (x ⟨11, by decide⟩) (x ⟨12, by decide⟩) (x ⟨13, by decide⟩) (x ⟨14, by decide⟩) (x ⟨15, by decide⟩))
    (s ⟨8, by decide⟩) (s ⟨9, by decide⟩) (s ⟨10, by decide⟩) (s ⟨11, by decide⟩) (s ⟨12, by decide⟩) (s ⟨13, by decide⟩) (s ⟨14, by decide⟩) (s ⟨15, by decide⟩)) (prodA (w ⟨2, by decide⟩) (x ⟨16, by decide⟩) (x ⟨17, by decide⟩) (x ⟨18, by decide⟩) (x ⟨19, by decide⟩) (x ⟨20, by decide⟩) (x ⟨21, by decide⟩) (x ⟨22, by decide⟩) (x ⟨23, by decide⟩))
    (s ⟨16, by decide⟩) (s ⟨17, by decide⟩) (s ⟨18, by decide⟩) (s ⟨19, by decide⟩) (s ⟨20, by decide⟩) (s ⟨21, by decide⟩) (s ⟨22, by decide⟩) (s ⟨23, by decide⟩)) (prodB w3 (x ⟨24, by decide⟩) (x ⟨25, by decide⟩) (x ⟨26, by decide⟩))
    (s ⟨24, by decide⟩) (s ⟨25, by decide⟩) (s ⟨26, by decide⟩)) b xs

/-- A load of eight rows of words of offset `k`, from row `r`. -/
abbrev rX (k : Fin 27) (r : Nat) (hr : r + 8 ≤ 128) : Rect S27x128x128 :=
  Rect.unit ![k.val, r, 0] S1x8x128.size (by
    intro a; have := k.isLt
    match a with
    | ⟨0, _⟩ => show k.val + 1 ≤ 27; omega
    | ⟨1, _⟩ => show r + 8 ≤ 128; omega
    | ⟨2, _⟩ => show 0 + 128 ≤ 128; omega)

/-- The load of offset `k`'s scales. -/
abbrev rS (k : Fin 27) : Rect S27x64x128 :=
  Rect.unit ![k.val, 0, 0] S1x64x128.size (by
    intro a; have := k.isLt
    match a with
    | ⟨0, _⟩ => show k.val + 1 ≤ 27; omega
    | ⟨1, _⟩ => show 0 + 64 ≤ 64; omega
    | ⟨2, _⟩ => show 0 + 128 ≤ 128; omega)

/-- The load of group `g`'s weights. -/
abbrev rW (g : Fin 3) : Rect S4x512x256 :=
  Rect.unit ![g.val, 0, 0] S1x512x256.size (by
    intro a; have := g.isLt
    match a with
    | ⟨0, _⟩ => show g.val + 1 ≤ 4; omega
    | ⟨1, _⟩ => show 0 + 512 ≤ 512; omega
    | ⟨2, _⟩ => show 0 + 256 ≤ 256; omega)

/-- The load of the last group's weights. -/
abbrev rW3 : Rect S4x512x256 := Rect.unit ![3, 0, 0] S1x192x96.size inb_S4x512x256_S1x192x96_3_0_0

/-- The tile from row `r`, from what the body's loads read. -/
def tileOf (XT : Vec F S27x128x128 .i32) (xs : Elt F .f32) (x2 : Vec F S4x512x256 .fp8e4m3) (x3 : Vec F S27x64x128 .f32) (x4 : Vec F S64x128 .f32)
    (r : Nat) (hr : r + 16 ≤ 128) : FVec F S1x64x256 .f32 :=
  tile (fun k => pair (fun y => XT ((rX k r (by omega)).idx y)) (fun y => XT ((rX k (r + 8) (by omega)).idx y)))
    (fun g y => x2 ((rW g).idx y)) (fun y => x2 (rW3.idx y)) (fun k y => x3 ((rS k).idx y)) x4 xs

/-- What the body's loads of one tile give, as read from its buffers. -/
def tileRead (c : Dev nD) (arg2 : Memref sig .tc .smem S1 .f32) (harg2 : arg2.IsWhole) (arg3 : Memref sig .tc .vmem S1x27x128x128 .i32) (harg3 : arg3.IsWhole) (arg4 : Memref sig .tc .vmem S4x512x256 .fp8e4m3) (harg4 : arg4.IsWhole) (arg5 : Memref sig .tc .vmem S27x64x128 .f32) (harg5 : arg5.IsWhole) (arg6 : Memref sig .tc .vmem S64x128 .f32) (harg6 : arg6.IsWhole) (arg8 : Memref sig .tc .vmem S27x128x128 .i32)
    (x0 : Vec F S1 .f32) (x1 : Vec F S1x27x128x128 .i32) (x2 : Vec F S4x512x256 .fp8e4m3) (x3 : Vec F S27x64x128 .f32) (x4 : Vec F S64x128 .f32)
    (r : Nat) (hr : r + 16 ≤ 128) : FVec F S1x64x256 .f32 :=
  tile (fun k => pair (arg8.view.readCov (kernelRun0_A.sl.HS0_27 c arg3 harg3 x1) (rX k r (by omega)).toLoadRect)
      (arg8.view.readCov (kernelRun0_A.sl.HS0_27 c arg3 harg3 x1) (rX k (r + 8) (by omega)).toLoadRect))
    (fun g => View.readAt (Elt F) arg4.view (rW g).toLoadRect (harg4.unread x2))
    (View.readAt (Elt F) arg4.view rW3.toLoadRect (harg4.unread x2))
    (fun k => View.readAt (Elt F) arg5.view (rS k).toLoadRect (harg5.unread x3))
    (View.readAt (Elt F) arg6.view (Rect.unit ![0, 0] S64x128.size inb_S64x128_S64x128_0_0).toLoadRect (harg6.unread x4))
    (View.readAt (Elt F) arg2.view (Rect.unit ![0] S1.size inb_S1_S1_0).toLoadRect (harg2.unread x0) (Shape.Idx.first (by decide)))

set_option maxHeartbeats 4000000 in
/-- The eight stores of a grid point, last first. -/
theorem run_pieces (c : Dev nD) (i : grid0.Coords) (arg2 : Memref sig .tc .smem S1 .f32) (harg2 : arg2.IsWhole) (arg3 : Memref sig .tc .vmem S1x27x128x128 .i32) (harg3 : arg3.IsWhole) (arg4 : Memref sig .tc .vmem S4x512x256 .fp8e4m3) (harg4 : arg4.IsWhole) (arg5 : Memref sig .tc .vmem S27x64x128 .f32) (harg5 : arg5.IsWhole) (arg6 : Memref sig .tc .vmem S64x128 .f32) (harg6 : arg6.IsWhole) (arg7 : Memref sig .tc .vmem S1x64x2048 .f32) (harg7 : arg7.IsWhole) (arg8 : Memref sig .tc .vmem S27x128x128 .i32) (harg8 : arg8.IsWhole)
    (x0 : Vec F S1 .f32) (x1 : Vec F S1x27x128x128 .i32) (x2 : Vec F S4x512x256 .fp8e4m3) (x3 : Vec F S27x64x128 .f32) (x4 : Vec F S64x128 .f32) :
    (kernelRun0_A c i arg2 harg2 arg3 harg3 arg4 harg4 arg5 harg5 arg6 harg6 arg7 harg7 arg8 harg8 x0 x1 x2 x3 x4).1 = [
      ⟨Rect.unit ![0, 0, 1792] S1x64x256.size inb_S1x64x2048_S1x64x256_0_0_1792, tileRead c arg2 harg2 arg3 harg3 arg4 harg4 arg5 harg5 arg6 harg6 arg8 x0 x1 x2 x3 x4 112 (by decide)⟩,
      ⟨Rect.unit ![0, 0, 1536] S1x64x256.size inb_S1x64x2048_S1x64x256_0_0_1536, tileRead c arg2 harg2 arg3 harg3 arg4 harg4 arg5 harg5 arg6 harg6 arg8 x0 x1 x2 x3 x4 96 (by decide)⟩,
      ⟨Rect.unit ![0, 0, 1280] S1x64x256.size inb_S1x64x2048_S1x64x256_0_0_1280, tileRead c arg2 harg2 arg3 harg3 arg4 harg4 arg5 harg5 arg6 harg6 arg8 x0 x1 x2 x3 x4 80 (by decide)⟩,
      ⟨Rect.unit ![0, 0, 1024] S1x64x256.size inb_S1x64x2048_S1x64x256_0_0_1024, tileRead c arg2 harg2 arg3 harg3 arg4 harg4 arg5 harg5 arg6 harg6 arg8 x0 x1 x2 x3 x4 64 (by decide)⟩,
      ⟨Rect.unit ![0, 0, 768] S1x64x256.size inb_S1x64x2048_S1x64x256_0_0_768, tileRead c arg2 harg2 arg3 harg3 arg4 harg4 arg5 harg5 arg6 harg6 arg8 x0 x1 x2 x3 x4 48 (by decide)⟩,
      ⟨Rect.unit ![0, 0, 512] S1x64x256.size inb_S1x64x2048_S1x64x256_0_0_512, tileRead c arg2 harg2 arg3 harg3 arg4 harg4 arg5 harg5 arg6 harg6 arg8 x0 x1 x2 x3 x4 32 (by decide)⟩,
      ⟨Rect.unit ![0, 0, 256] S1x64x256.size inb_S1x64x2048_S1x64x256_0_0_256, tileRead c arg2 harg2 arg3 harg3 arg4 harg4 arg5 harg5 arg6 harg6 arg8 x0 x1 x2 x3 x4 16 (by decide)⟩,
      ⟨Rect.unit ![0, 0, 0] S1x64x256.size inb_S1x64x2048_S1x64x256_0_0_0, tileRead c arg2 harg2 arg3 harg3 arg4 harg4 arg5 harg5 arg6 harg6 arg8 x0 x1 x2 x3 x4 0 (by decide)⟩] := rfl

end Cert.KernelIdeal.Conv

end
-- ==== Proof.Block.lean ====
/- The words a grid point turns to columns, and what it leaves in its output block: eight tiles. -/
module
public import proofs.«01_k».proof.Proof.Body
public import Idealize.ShloMosaic.Lib.WholeRead
@[expose] public section
set_option maxRecDepth 16384
noncomputable section
namespace Cert.KernelIdeal.Conv
open Cert.KernelIdeal Cert.KernelIdeal.Gen Idealize.ShloMosaic Idealize.ShloMosaic.TcCoe Idealize.SL.Sem
variable {F : FTy → Type} [FloatOps F]

/-- The words of a grid point's gathered rows, each offset's 128 rows turned to columns. -/
def XT (x1 : Vec F S1x27x128x128 .i32) : Vec F S27x128x128 .i32 := fun j => x1 (ix4 0 (j 0) (j 2) (j 1))

/-- A turned slab at an index. -/
theorem turn {α : Type} (v : S1x1x128x128.Idx → α) (x : S1x128x128.Idx) :
    shapeCast S1x128x128 (transpose S128x128 [1, 0] (shapeCast S128x128 v shapeCasts_S1x1x128x128_S128x128)
        transposes_S128x128_p1_0_S128x128) shapeCasts_S128x128_S1x128x128 x = v (ix4 0 0 (x 2) (x 1)) := by
  idx_vars x
  pointwise

/-- What the body stores of one offset's rows. -/
theorem slab (arg3 : Memref sig .tc .vmem S1x27x128x128 .i32) (harg3 : arg3.IsWhole) (x1 : Vec F S1x27x128x128 .i32) (k : Nat)
    (h : ∀ a, (![0, k, 0, 0] : Fin 4 → Nat) a + S1x1x128x128.size a ≤ S1x27x128x128.size a) (y : S27x128x128.Idx) :
    View.TileAt (Val := Elt F) (e := .i32) y ![k, 0, 0] S1x128x128.size
      (shapeCast S1x128x128 (transpose S128x128 [1, 0] (shapeCast S128x128
        (View.readAt (Elt F) arg3.view (Rect.unit (s := S1x27x128x128) ![0, k, 0, 0] S1x1x128x128.size h).toLoadRect (harg3.unread x1)) shapeCasts_S1x1x128x128_S128x128)
        transposes_S128x128_p1_0_S128x128) shapeCasts_S128x128_S1x128x128) (XT x1 y) := by
  intro x hx
  have h0 : (y 0).val = k + (x 0).val := hx 0
  have h1 : (y 1).val = 0 + (x 1).val := hx 1
  have h2 : (y 2).val = 0 + (x 2).val := hx 2
  have hl : (x 0).val < 1 := (x 0).isLt
  rw [turn]
  refine (harg3.readAt_unread x1 _ _).trans (congrArg x1 (funext fun a => Fin.ext ?_))
  refine (Rect.idx_unit_val _ _ h _ a).trans ?_
  match a with
  | ⟨0, _⟩ => rfl
  | ⟨1, _⟩ => show k + 0 = (y 0).val; omega
  | ⟨2, _⟩ => show 0 + (x 2).val = (y 2).val; omega
  | ⟨3, _⟩ => show 0 + (x 1).val = (y 1).val; omega

/-- The scratch after its 27 stores. -/
theorem canonXT (c : Dev nD) (arg3 : Memref sig .tc .vmem S1x27x128x128 .i32) (harg3 : arg3.IsWhole) (x1 : Vec F S1x27x128x128 .i32) (y : S27x128x128.Idx) :
    View.canon (kernelRun0_A.sl.HS0_27 c arg3 harg3 x1) y = XT x1 y := by
  refine View.canon_eq_of_allAt _ y _ (View.cover_of_tiledL (kernelRun0_A.sl.HS0_27 c arg3 harg3 x1) S1x128x128.size (by sl_kernel_rfl) y) ?_
  unfold kernelRun0_A.sl.HS0_27
  repeat' refine View.allAt_cons_unit _ _ _ _ _ ?_ ?_
  all_goals first | exact View.allAt_nil _ _ | exact slab arg3 harg3 x1 _ _ y

/-- A tile as read from the buffers is the tile of their contents. -/
theorem tileRead_eq (c : Dev nD) (arg2 : Memref sig .tc .smem S1 .f32) (harg2 : arg2.IsWhole) (arg3 : Memref sig .tc .vmem S1x27x128x128 .i32) (harg3 : arg3.IsWhole) (arg4 : Memref sig .tc .vmem S4x512x256 .fp8e4m3) (harg4 : arg4.IsWhole) (arg5 : Memref sig .tc .vmem S27x64x128 .f32) (harg5 : arg5.IsWhole) (arg6 : Memref sig .tc .vmem S64x128 .f32) (harg6 : arg6.IsWhole) (arg8 : Memref sig .tc .vmem S27x128x128 .i32)
    (x0 : Vec F S1 .f32) (x1 : Vec F S1x27x128x128 .i32) (x2 : Vec F S4x512x256 .fp8e4m3) (x3 : Vec F S27x64x128 .f32) (x4 : Vec F S64x128 .f32)
    (r : Nat) (hr : r + 16 ≤ 128) :
    tileRead c arg2 harg2 arg3 harg3 arg4 harg4 arg5 harg5 arg6 harg6 arg8 x0 x1 x2 x3 x4 r hr = tileOf (XT x1) (x0 (ix1 0)) x2 x3 x4 r hr := by
  have hc : View.canon (kernelRun0_A.sl.HS0_27 c arg3 harg3 x1) = XT x1 := funext (canonXT c arg3 harg3 x1)
  unfold tileRead tileOf
  congr 1
  · funext k
    rw [View.readCov_eq_canon', View.readCov_eq_canon', hc]
    rfl
  · funext g y
    exact harg4.readAt_unread x2 _ _
  · funext y
    exact harg4.readAt_unread x2 _ _
  · funext k y
    exact harg5.readAt_unread x3 _ _
  · funext y
    refine (harg6.readAt_unread x4 _ _).trans (congrArg x4 (funext fun a => Fin.ext ?_))
    refine (Rect.idx_unit_val _ _ _ _ a).trans ?_
    match a with
    | ⟨0, _⟩ => exact Nat.zero_add _
    | ⟨1, _⟩ => exact Nat.zero_add _
  · refine (harg2.readAt_unread x0 _ _).trans (congrArg x0 (funext fun a => ?_))
    match a with
    | ⟨0, _⟩ => exact Subsingleton.elim (α := Fin 1) _ _

/-- What a grid point leaves in its output block, at an index: the tile that holds it. -/
theorem out_at (c : Dev nD) (i : grid0.Coords) (arg2 : Memref sig .tc .smem S1 .f32) (harg2 : arg2.IsWhole) (arg3 : Memref sig .tc .vmem S1x27x128x128 .i32) (harg3 : arg3.IsWhole) (arg4 : Memref sig .tc .vmem S4x512x256 .fp8e4m3) (harg4 : arg4.IsWhole) (arg5 : Memref sig .tc .vmem S27x64x128 .f32) (harg5 : arg5.IsWhole) (arg6 : Memref sig .tc .vmem S64x128 .f32) (harg6 : arg6.IsWhole) (arg7 : Memref sig .tc .vmem S1x64x2048 .f32) (harg7 : arg7.IsWhole) (arg8 : Memref sig .tc .vmem S27x128x128 .i32) (harg8 : arg8.IsWhole)
    (x0 : Vec F S1 .f32) (x1 : Vec F S1x27x128x128 .i32) (x2 : Vec F S4x512x256 .fp8e4m3) (x3 : Vec F S27x64x128 .f32) (x4 : Vec F S64x128 .f32)
    (y : S1x64x2048.Idx) (v : Elt F .f32)
    (H : ∀ (t : Nat) (ht : t < 8), View.TileAt (Val := Elt F) (e := .f32) y ![0, 0, 256 * t] S1x64x256.size
      (tileOf (XT x1) (x0 (ix1 0)) x2 x3 x4 (16 * t) (by omega)) v) :
    out0_A_5 c i arg2 harg2 arg3 harg3 arg4 harg4 arg5 harg5 arg6 harg6 arg7 harg7 arg8 harg8 x0 x1 x2 x3 x4 y = v := by
  unfold out0_A_5
  rw [View.read_writes_junk_eq_canon]
  refine View.canon_eq_of_allAt _ y v (cover0_A_5 c i arg2 harg2 arg3 harg3 arg4 harg4 arg5 harg5 arg6 harg6 arg7 harg7 arg8 harg8 x0 x1 x2 x3 x4 y) ?_
  rw [run_pieces]
  simp only [tileRead_eq]
  refine View.allAt_cons_unit _ _ _ _ _ (H 7 (by decide)) ?_
  refine View.allAt_cons_unit _ _ _ _ _ (H 6 (by decide)) ?_
  refine View.allAt_cons_unit _ _ _ _ _ (H 5 (by decide)) ?_
  refine View.allAt_cons_unit _ _ _ _ _ (H 4 (by decide)) ?_
  refine View.allAt_cons_unit _ _ _ _ _ (H 3 (by decide)) ?_
  refine View.allAt_cons_unit _ _ _ _ _ (H 2 (by decide)) ?_
  refine View.allAt_cons_unit _ _ _ _ _ (H 1 (by decide)) ?_
  refine View.allAt_cons_unit _ _ _ _ _ (H 0 (by decide)) ?_
  exact View.allAt_nil _ _

end Cert.KernelIdeal.Conv
end
-- ==== Proof.Math.lean ====
/- The tile over exact arithmetic: a block-diagonal product keeps only each offset's own channels, so a tile's element
   is the sum over the 27 offsets of the offset's scaled dot product. -/
module
public import proofs.«01_k».proof.Proof.Body
public import Idealize.ShloMosaic.Lib.BitcastPair

@[expose] public section
set_option maxRecDepth 16384
noncomputable section
namespace Cert.KernelIdeal.Conv
open Cert.KernelIdeal Cert.KernelIdeal.Gen Idealize.ShloMosaic Idealize.ShloMosaic.TcCoe Idealize.SL.Sem

/-- The stacked channels of a group of eight at an index: channel `c % 32` of offset `c / 32`. -/
theorem cat8_apply {α : Type} (x : Fin 8 → S32x256.Idx → α) (c : Fin 256) (v : Fin 256) :
    concatenate S256x256 0 [⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩]
      concatenates_S32x256_S32x256_S32x256_S32x256_S32x256_S32x256_S32x256_S32x256_S256x256_d0 (ix2 c v)
      = x ⟨c.val / 32, by omega⟩ (ix2 ⟨c.val % 32, by omega⟩ v) := by
  refine concatenate_ofFn_apply (t := S256x256) (s₁ := S32x256) 0 x
    concatenates_S32x256_S32x256_S32x256_S32x256_S32x256_S32x256_S32x256_S32x256_S256x256_d0 rfl 32 rfl (ix2 c v) _ rfl _ rfl ?_
  intro b hb
  match b with
  | ⟨0, _⟩ => exact absurd rfl hb
  | ⟨1, _⟩ => rfl

/-- The stacked channels of the last three offsets at an index. -/
theorem cat3_apply {α : Type} (x : Fin 3 → S32x256.Idx → α) (c : Fin 96) (v : Fin 256) :
    concatenate S96x256 0 [⟨S32x256, x 0⟩, ⟨S32x256, x 1⟩, ⟨S32x256, x 2⟩] concatenates_S32x256_S32x256_S32x256_S96x256_d0 (ix2 c v)
      = x ⟨c.val / 32, by omega⟩ (ix2 ⟨c.val % 32, by omega⟩ v) := by
  refine concatenate_ofFn_apply (t := S96x256) (s₁ := S32x256) 0 x
    concatenates_S32x256_S32x256_S32x256_S96x256_d0 rfl 32 rfl (ix2 c v) _ rfl _ rfl ?_
  intro b hb
  match b with
  | ⟨0, _⟩ => exact absurd rfl hb
  | ⟨1, _⟩ => rfl

/-- Channel row `i` of a column is byte `i % 4` of its word `i / 4`. -/
theorem half_apply (v : Vec Ideal S1x8x128 .i32) (i : Fin 32) (l : Fin 128) :
    half (F := Ideal) v (ix2 i l)
      = FloatOps.ofBits (F := Ideal) .fp8e4m3 (BitVec.extractLsb' (i.val % 4 * 8) 8 (v (ix3 0 ⟨i.val / 4, by omega⟩ l))) := by
  unfold half
  show FloatOps.ofBits (F := Ideal) .fp8e4m3 _ = _
  congr 1
  apply BitVec.eq_of_getLsbD_eq
  intro q hq
  rw [bitcast_getLsbD _ _ _ q hq (by decide), BitVec.getLsbD_extractLsb']
  have hsrc : ∀ (p : Nat) (hp) (e : p = i.val / 4),
      shapeCast S8x128 v shapeCasts_S1x8x128_S8x128 (Shape.Bitcasts.srcIdx bitcasts_S8x128_w32_S32x128_w8 (ix2 i l) p hp)
        = v (ix3 0 ⟨i.val / 4, by omega⟩ l) := by
    intro p hp e
    have e2 : Shape.Bitcasts.srcIdx bitcasts_S8x128_w32_S32x128_w8 (ix2 i l) p hp = ix2 ⟨i.val / 4, by omega⟩ l := by
      funext a
      match a with
      | ⟨0, _⟩ => exact Fin.ext ((Shape.Bitcasts.srcIdx_row _ _ _ _ ⟨0, Nat.zero_lt_two⟩ rfl).trans e)
      | ⟨1, _⟩ => exact Fin.ext (Shape.Bitcasts.srcIdx_other _ _ _ _ ⟨1, Nat.one_lt_two⟩ (by show ¬ 1 + 2 = 2; omega))
    rw [e2]
    pointwise
  have hrow : Shape.row S32x128 (ix2 i l) = i.val := rfl
  rw [hsrc _ _ (by rw [hrow]; omega), hrow]
  have e3 : (i.val * 8 + q) % 32 = i.val % 4 * 8 + q := by omega
  rw [e3]
  simp [hq]

/-- Channel row `i` of voxel column `v` of a pair of halves. -/
theorem pair_apply (lo hi : Vec Ideal S1x8x128 .i32) (i : Fin 32) (v : Fin 256) :
    pair (F := Ideal) lo hi (ix2 i v) = FloatOps.ofBits (F := Ideal) .fp8e4m3 (BitVec.extractLsb' (i.val % 4 * 8) 8
      (if v.val < 128 then lo (ix3 0 ⟨i.val / 4, by omega⟩ ⟨v.val % 128, by omega⟩) else hi (ix3 0 ⟨i.val / 4, by omega⟩ ⟨v.val % 128, by omega⟩))) := by
  unfold pair
  pointwise
  by_cases hv : v.val < 128
  · rw [dif_pos hv, if_pos hv, half_apply]
    have e : (⟨v.val, hv⟩ : Fin 128) = ⟨v.val % 128, by omega⟩ := Fin.ext (by show v.val = v.val % 128; omega)
    rw [e]; rfl
  · rw [dif_neg hv, if_neg hv, half_apply]
    have e : ∀ h, (⟨v.val - 128, h⟩ : Fin 128) = ⟨v.val % 128, by omega⟩ := fun h => Fin.ext (by show v.val - 128 = v.val % 128; omega)
    rw [e]; rfl

/-- A group's products at an index, as one sum over the stacked channels. -/
theorem prodA_sum (w : Vec Ideal S1x512x256 .fp8e4m3) (x0 x1 x2 x3 x4 x5 x6 x7 : FVec Ideal S32x256 .fp8e4m3) (o : Fin 512) (v : Fin 256) :
    prodA w x0 x1 x2 x3 x4 x5 x6 x7 (ix2 o v) = ∑ c : Fin 256, (w (ix3 0 o c) : EReal) *
      concatenate S256x256 0 [⟨S32x256, x0⟩, ⟨S32x256, x1⟩, ⟨S32x256, x2⟩, ⟨S32x256, x3⟩, ⟨S32x256, x4⟩, ⟨S32x256, x5⟩, ⟨S32x256, x6⟩, ⟨S32x256, x7⟩]
      concatenates_S32x256_S32x256_S32x256_S32x256_S32x256_S32x256_S32x256_S32x256_S256x256_d0 (ix2 c v) := by
  unfold prodA
  generalize concatenate S256x256 0 _ _ = R
  pointwise

/-- The last group's products likewise. -/
theorem prodB_sum (w : Vec Ideal S1x192x96 .fp8e4m3) (x0 x1 x2 : FVec Ideal S32x256 .fp8e4m3) (o : Fin 192) (v : Fin 256) :
    prodB w x0 x1 x2 (ix2 o v) = ∑ c : Fin 96, (w (ix3 0 o c) : EReal) *
      concatenate S96x256 0 [⟨S32x256, x0⟩, ⟨S32x256, x1⟩, ⟨S32x256, x2⟩] concatenates_S32x256_S32x256_S32x256_S96x256_d0 (ix2 c v) := by
  unfold prodB
  generalize concatenate S96x256 0 _ _ = R
  pointwise

/-- A sum over stacked channels against a row that is zero off block `i` is the sum over block `i`. -/
theorem sum_block {N A : Nat} (hN : N = A * 32) (i : Fin A) (w : Fin N → EReal) (W : Fin 32 → EReal) (x : Fin A → Fin 32 → EReal)
    (hw : ∀ c : Fin N, w c = if c.val / 32 = i.val then W ⟨c.val % 32, by omega⟩ else 0) (f : Fin N → EReal)
    (hf : ∀ (c : Fin N) (h : c.val / 32 < A), f c = x ⟨c.val / 32, h⟩ ⟨c.val % 32, by omega⟩) :
    ∑ c : Fin N, w c * f c = ∑ r : Fin 32, W r * x i r := by
  have e : ∑ c : Fin N, w c * f c = ∑ a : Fin A, ∑ r : Fin 32, (if a.val = i.val then W r else 0) * x a r :=
    Fin.sum_divmod_congr (fun t ha hs => by rw [hw, hf t ha]) hN
  rw [e, Finset.sum_eq_single i]
  · simp
  · intro a _ hne
    refine Finset.sum_eq_zero fun r _ => ?_
    rw [if_neg (fun h => hne (Fin.ext h)), zero_mul]
  · intro h; exact absurd (Finset.mem_univ i) h

/-- A group's products, the weights block-diagonal: row `64 i + o` is offset `i`'s own dot product. -/
theorem prodA_apply (w : Vec Ideal S1x512x256 .fp8e4m3) (x : Fin 8 → FVec Ideal S32x256 .fp8e4m3) (W : Fin 8 → Fin 64 → Fin 32 → EReal)
    (hw : ∀ (i : Fin 8) (o : Fin 64) (c : Fin 256), w (ix3 0 ⟨64 * i.val + o.val, by omega⟩ c) = if c.val / 32 = i.val then W i o ⟨c.val % 32, by omega⟩ else 0)
    (i : Fin 8) (o : Fin 64) (v : Fin 256) :
    prodA w (x 0) (x 1) (x 2) (x 3) (x 4) (x 5) (x 6) (x 7) (ix2 ⟨64 * i.val + o.val, by omega⟩ v) = ∑ r : Fin 32, W i o r * (x i (ix2 r v) : EReal) := by
  rw [prodA_sum]
  exact sum_block rfl i _ (W i o) (fun a r => x a (ix2 r v)) (hw i o) _ (fun c h => cat8_apply x c v)

/-- The last group's products likewise. -/
theorem prodB_apply (w : Vec Ideal S1x192x96 .fp8e4m3) (x : Fin 3 → FVec Ideal S32x256 .fp8e4m3) (W : Fin 3 → Fin 64 → Fin 32 → EReal)
    (hw : ∀ (i : Fin 3) (o : Fin 64) (c : Fin 96), w (ix3 0 ⟨64 * i.val + o.val, by omega⟩ c) = if c.val / 32 = i.val then W i o ⟨c.val % 32, by omega⟩ else 0)
    (i : Fin 3) (o : Fin 64) (v : Fin 256) :
    prodB w (x 0) (x 1) (x 2) (ix2 ⟨64 * i.val + o.val, by omega⟩ v) = ∑ r : Fin 32, W i o r * (x i (ix2 r v) : EReal) := by
  rw [prodB_sum]
  exact sum_block rfl i _ (W i o) (fun a r => x a (ix2 r v)) (hw i o) _ (fun c h => cat3_apply x c v)

/-- An offset's scales at an index: the stored columns repeat. -/
theorem scale2_apply (s : Vec Ideal S1x64x128 .f32) (o : Fin 64) (v : Fin 256) :
    scale2 s (ix2 o v) = s (ix3 0 o ⟨v.val % 128, by omega⟩) := by
  unfold scale2
  pointwise
  by_cases hv : v.val < 128
  · rw [dif_pos hv]
    have e : (⟨v.val, hv⟩ : Fin 128) = ⟨v.val % 128, by omega⟩ := Fin.ext (by show v.val = v.val % 128; omega)
    rw [e]
  · rw [dif_neg hv]
    have e : ∀ h, (⟨v.val - 128, h⟩ : Fin 128) = ⟨v.val % 128, by omega⟩ := fun h => Fin.ext (by show v.val - 128 = v.val % 128; omega)
    rw [e]

/-- One offset's step at an index. -/
theorem stepA_apply (off : Nat) (h : S512x256.Slices ![off, 0] S64x256) (acc : FVec Ideal S64x256 .f32) (p : FVec Ideal S512x256 .f32) (s : Vec Ideal S1x64x128 .f32)
    (o : Fin 64) (v : Fin 256) (ho : off + o.val < 512) :
    stepA off h acc p s (ix2 o v) = (acc (ix2 o v) + p (ix2 ⟨off + o.val, ho⟩ v) * s (ix3 0 o ⟨v.val % 128, by omega⟩) : EReal) := by
  rw [← scale2_apply s o v]
  show (acc (ix2 o v) + extractStridedSlice S64x256 ![off, 0] p h (ix2 o v) * scale2 s (ix2 o v) : EReal) = _
  congr 2
  refine congrArg p (funext fun a => Fin.ext ?_)
  match a with
  | ⟨0, _⟩ => rfl
  | ⟨1, _⟩ => exact Nat.zero_add _

/-- One of the last three offsets' steps at an index. -/
theorem stepB_apply (off : Nat) (h : S192x256.Slices ![off, 0] S64x256) (acc : FVec Ideal S64x256 .f32) (p : FVec Ideal S192x256 .f32) (s : Vec Ideal S1x64x128 .f32)
    (o : Fin 64) (v : Fin 256) (ho : off + o.val < 192) :
    stepB off h acc p s (ix2 o v) = (acc (ix2 o v) + p (ix2 ⟨off + o.val, ho⟩ v) * s (ix3 0 o ⟨v.val % 128, by omega⟩) : EReal) := by
  rw [← scale2_apply s o v]
  show (acc (ix2 o v) + extractStridedSlice S64x256 ![off, 0] p h (ix2 o v) * scale2 s (ix2 o v) : EReal) = _
  congr 2
  refine congrArg p (funext fun a => Fin.ext ?_)
  match a with
  | ⟨0, _⟩ => rfl
  | ⟨1, _⟩ => exact Nat.zero_add _

/-- One offset's term: its dot product over the channels, scaled. -/
def term (W : Fin 64 → Fin 32 → EReal) (x : FVec Ideal S32x256 .fp8e4m3) (s : Vec Ideal S1x64x128 .f32) (o : Fin 64) (v : Fin 256) : EReal :=
  (∑ r : Fin 32, W o r * (x (ix2 r v) : EReal)) * s (ix3 0 o ⟨v.val % 128, by omega⟩)

/-- A group's eight offsets at an index. -/
theorem groupA_apply (acc : FVec Ideal S64x256 .f32) (w : Vec Ideal S1x512x256 .fp8e4m3) (x : Fin 8 → FVec Ideal S32x256 .fp8e4m3)
    (s : Fin 8 → Vec Ideal S1x64x128 .f32) (W : Fin 8 → Fin 64 → Fin 32 → EReal)
    (hw : ∀ (i : Fin 8) (o : Fin 64) (c : Fin 256), w (ix3 0 ⟨64 * i.val + o.val, by omega⟩ c) = if c.val / 32 = i.val then W i o ⟨c.val % 32, by omega⟩ else 0)
    (o : Fin 64) (v : Fin 256) :
    groupA acc (prodA w (x 0) (x 1) (x 2) (x 3) (x 4) (x 5) (x 6) (x 7)) (s 0) (s 1) (s 2) (s 3) (s 4) (s 5) (s 6) (s 7) (ix2 o v)
      = (acc (ix2 o v) + ∑ i : Fin 8, term (W i) (x i) (s i) o v : EReal) := by
  have hp : ∀ (i : Fin 8) (off : Nat) (e : off = 64 * i.val) (ho : off + o.val < 512),
      prodA w (x 0) (x 1) (x 2) (x 3) (x 4) (x 5) (x 6) (x 7) (ix2 ⟨off + o.val, ho⟩ v) = ∑ r : Fin 32, W i o r * (x i (ix2 r v) : EReal) := by
    intro i off e ho; subst e; exact prodA_apply w x W hw i o v
  unfold groupA
  rw [stepA_apply _ _ _ _ _ _ _ (by omega), hp 7 448 rfl (by omega)]
  rw [stepA_apply _ _ _ _ _ _ _ (by omega), hp 6 384 rfl (by omega)]
  rw [stepA_apply _ _ _ _ _ _ _ (by omega), hp 5 320 rfl (by omega)]
  rw [stepA_apply _ _ _ _ _ _ _ (by omega), hp 4 256 rfl (by omega)]
  rw [stepA_apply _ _ _ _ _ _ _ (by omega), hp 3 192 rfl (by omega)]
  rw [stepA_apply _ _ _ _ _ _ _ (by omega), hp 2 128 rfl (by omega)]
  rw [stepA_apply _ _ _ _ _ _ _ (by omega), hp 1 64 rfl (by omega)]
  rw [stepA_apply _ _ _ _ _ _ _ (by omega), hp 0 0 rfl (by omega)]
  simp only [Fin.sum_univ_eight, ← add_assoc]
  rfl

/-- The last three offsets at an index. -/
theorem groupB_apply (acc : FVec Ideal S64x256 .f32) (w : Vec Ideal S1x192x96 .fp8e4m3) (x : Fin 3 → FVec Ideal S32x256 .fp8e4m3)
    (s : Fin 3 → Vec Ideal S1x64x128 .f32) (W : Fin 3 → Fin 64 → Fin 32 → EReal)
    (hw : ∀ (i : Fin 3) (o : Fin 64) (c : Fin 96), w (ix3 0 ⟨64 * i.val + o.val, by omega⟩ c) = if c.val / 32 = i.val then W i o ⟨c.val % 32, by omega⟩ else 0)
    (o : Fin 64) (v : Fin 256) :
    groupB acc (prodB w (x 0) (x 1) (x 2)) (s 0) (s 1) (s 2) (ix2 o v)
      = (acc (ix2 o v) + ∑ i : Fin 3, term (W i) (x i) (s i) o v : EReal) := by
  have hp : ∀ (i : Fin 3) (off : Nat) (e : off = 64 * i.val) (ho : off + o.val < 192),
      prodB w (x 0) (x 1) (x 2) (ix2 ⟨off + o.val, ho⟩ v) = ∑ r : Fin 32, W i o r * (x i (ix2 r v) : EReal) := by
    intro i off e ho; subst e; exact prodB_apply w x W hw i o v
  unfold groupB
  rw [stepB_apply _ _ _ _ _ _ _ (by omega), hp 2 128 rfl (by omega)]
  rw [stepB_apply _ _ _ _ _ _ _ (by omega), hp 1 64 rfl (by omega)]
  rw [stepB_apply _ _ _ _ _ _ _ (by omega), hp 0 0 rfl (by omega)]
  simp only [Fin.sum_univ_three, ← add_assoc]
  rfl

/-- The end of a tile at an index. -/
theorem fin_apply (acc : FVec Ideal S64x256 .f32) (b : Vec Ideal S64x128 .f32) (xs : Elt Ideal .f32) (o : Fin 64) (v : Fin 256) :
    fin acc b xs (ix3 0 o v) = (acc (ix2 o v) * xs + b (ix2 o ⟨v.val % 128, by omega⟩) : EReal) := by
  unfold fin
  pointwise
  by_cases hv : v.val < 128
  · rw [dif_pos hv]
    have e : (⟨v.val, hv⟩ : Fin 128) = ⟨v.val % 128, by omega⟩ := Fin.ext (by show v.val = v.val % 128; omega)
    rw [e]
  · rw [dif_neg hv]
    have e : ∀ h, (⟨v.val - 128, h⟩ : Fin 128) = ⟨v.val % 128, by omega⟩ := fun h => Fin.ext (by show v.val - 128 = v.val % 128; omega)
    rw [e]

/-- A sum over 27 offsets as three groups of eight and one of three. -/
theorem sum27 (f : Fin 27 → EReal) : ∑ k : Fin 27, f k = 0 + (∑ i : Fin 8, f ⟨i.val, by omega⟩) + (∑ i : Fin 8, f ⟨8 + i.val, by omega⟩)
    + (∑ i : Fin 8, f ⟨16 + i.val, by omega⟩) + ∑ i : Fin 3, f ⟨24 + i.val, by omega⟩ := by
  rw [show (∑ k : Fin 27, f k) = ∑ k : Fin (24 + 3), f k from rfl, Fin.sum_univ_add,
    show (∑ k : Fin 24, f (Fin.castAdd 3 k)) = ∑ k : Fin (16 + 8), f (Fin.castAdd 3 k) from rfl, Fin.sum_univ_add,
    show (∑ k : Fin 16, f (Fin.castAdd 3 (Fin.castAdd 8 k))) = ∑ k : Fin (8 + 8), f (Fin.castAdd 3 (Fin.castAdd 8 k)) from rfl, Fin.sum_univ_add, zero_add]
  rfl

/-- A tile at an index, the weights block-diagonal: the sum over the 27 offsets of their terms, scaled, and the bias. -/
theorem tile_apply (x : Fin 27 → FVec Ideal S32x256 .fp8e4m3) (w : Fin 3 → Vec Ideal S1x512x256 .fp8e4m3) (w3 : Vec Ideal S1x192x96 .fp8e4m3)
    (s : Fin 27 → Vec Ideal S1x64x128 .f32) (b : Vec Ideal S64x128 .f32) (xs : Elt Ideal .f32) (W : Fin 27 → Fin 64 → Fin 32 → EReal)
    (hw : ∀ (g : Fin 3) (i : Fin 8) (o : Fin 64) (c : Fin 256),
      w g (ix3 0 ⟨64 * i.val + o.val, by omega⟩ c) = if c.val / 32 = i.val then W ⟨8 * g.val + i.val, by omega⟩ o ⟨c.val % 32, by omega⟩ else 0)
    (hw3 : ∀ (i : Fin 3) (o : Fin 64) (c : Fin 96),
      w3 (ix3 0 ⟨64 * i.val + o.val, by omega⟩ c) = if c.val / 32 = i.val then W ⟨24 + i.val, by omega⟩ o ⟨c.val % 32, by omega⟩ else 0)
    (o : Fin 64) (v : Fin 256) :
    tile x w w3 s b xs (ix3 0 o v)
      = ((∑ k : Fin 27, term (W k) (x k) (s k) o v) * xs + b (ix2 o ⟨v.val % 128, by omega⟩) : EReal) := by
  have A : ∀ (g : Fin 3) (acc : FVec Ideal S64x256 .f32), _ := fun g acc =>
    groupA_apply acc (w g) (fun i => x ⟨8 * g.val + i.val, by omega⟩) (fun i => s ⟨8 * g.val + i.val, by omega⟩)
      (fun i => W ⟨8 * g.val + i.val, by omega⟩) (hw g) o v
  have B : ∀ acc : FVec Ideal S64x256 .f32, _ := fun acc =>
    groupB_apply acc w3 (fun i => x ⟨24 + i.val, by omega⟩) (fun i => s ⟨24 + i.val, by omega⟩)
      (fun i => W ⟨24 + i.val, by omega⟩) hw3 o v
  unfold tile
  rw [fin_apply]
  congr 2
  refine (B _).trans ?_
  refine (congrArg (· + _) ((A 2 _).trans (congrArg (· + _) ((A 1 _).trans (congrArg (· + _) (A 0 _)))))).trans ?_
  have z : broadcast S64x256 (Scalar.ofBits (F := Ideal) .f32 0x00000000#32) (ix2 o v) = (0 : EReal) := by pointwise
  rw [z]
  rw [sum27 fun k => term (W k) (x k) (s k) o v]
  simp only [Fin.val_zero, Fin.val_one, Fin.val_two, Nat.mul_zero, Nat.zero_add, Nat.mul_one, Nat.reduceMul]

end Cert.KernelIdeal.Conv
end
-- ==== Proof.Host.lean ====
/- What the host hands the kernel: the weights block-diagonal in groups of eight offsets, the scales and the bias in 128 equal columns. -/
module
public import proofs.«01_k».proof.Proof.Math
public import Idealize.ShloMosaic.Lib.Claim
public import Idealize.ShloMosaic.Lib.Routing.OpsPair
public import Idealize.ShloMosaic.Lib.Routing.OpsSet
@[expose] public section
set_option maxRecDepth 16384
noncomputable section
namespace Cert.KernelIdeal.Conv
open Cert.KernelIdeal Cert.KernelIdeal.Gen Idealize.ShloMosaic Idealize.ShloMosaic.TcCoe Idealize.SL.Sem
variable (m : (ℓ : Loc nD τ sig) → Buf (Elt Ideal) ℓ)

/-- The weights of the 27 offsets, output by input, in a table of 32 offsets; the last five are zero. -/
def stacked (w : FVec Ideal S27x32x64 .fp8e4m3) : FVec Ideal S32x64x32 .fp8e4m3 :=
  Host.scatter scatter_S32x64x32_S1_S27x64x32_012_n_0_0 (fun _ b => b)
    (bitcastToFloat FTy.fp8e4m3 (broadcastInDim S32x64x32 ![] bcast_S_S32x64x32 (constantI S_ 8 0#8)))
    (broadcastInDim S1 ![] bcast_S_S1 (constantI S_ 32 0#32))
    (transpose S27x64x32 [0, 2, 1] w transposes_S27x32x64_S27x64x32_0_2_1)

/-- Whether the row and the column of a square of eight by eight agree. -/
def onDiag : IVec S8x8 1 :=
  cmpi CmpIPredicate.eq
    (addi (iotaInDim S8x8 32 0) (broadcastInDim S8x8 ![] bcast_S_S8x8 (constantI S_ 32 0#32)))
    (iotaInDim S8x8 32 1)

/-- The stacked weights laid out in blocks of eight offsets, each on the diagonal of its block. -/
def spread (w : FVec Ideal S27x32x64 .fp8e4m3) : FVec Ideal S4x8x64x8x32 .fp8e4m3 :=
  select
    (broadcastInDim S4x8x64x8x32 ![0, 1, 2, 3, 4] bcast_S1x8x1x8x1_S4x8x64x8x32_0_1_2_3_4
      (broadcastInDim S1x8x1x8x1 ![1, 3] bcast_S8x8_S1x8x1x8x1_1_3 onDiag))
    (broadcastInDim S4x8x64x8x32 ![0, 1, 2, 3, 4] bcast_S4x8x64x1x32_S4x8x64x8x32_0_1_2_3_4
      (shapeCast S4x8x64x1x32 (stacked w) shapeCasts_S32x64x32_S4x8x64x1x32))
    (broadcastInDim S4x8x64x8x32 ![] bcast_S_S4x8x64x8x32 (bitcastToFloat FTy.fp8e4m3 (constantI S_ 8 0#8)))

/-- The place in the stacked table of an entry of the transposed weights, axis by axis. -/
theorem land (k : Fin 27) (o : Fin 64) (c : Fin 32) (a : Fin 3) :
    scatter_S32x64x32_S1_S27x64x32_012_n_0_0.start (ix3 k o c) (broadcastInDim S1 ![] bcast_S_S1 (constantI S_ 32 0#32)) a +
      (scatter_S32x64x32_S1_S27x64x32_012_n_0_0.window (ix3 k o c) a : Int) = (![k.val, o.val, c.val] a : Nat) := by
  have hs : scatter_S32x64x32_S1_S27x64x32_012_n_0_0.start (ix3 k o c) (broadcastInDim S1 ![] bcast_S_S1 (constantI S_ 32 0#32)) a = 0 := by
    fin_cases a <;> rfl
  have hw : scatter_S32x64x32_S1_S27x64x32_012_n_0_0.window (ix3 k o c) a = ![k.val, o.val, c.val] a := by
    fin_cases a <;> rfl
  rw [hs, hw, zero_add]

/-- The weights of an offset below 27 stand in the stacked table, transposed. -/
theorem stacked_apply (w : FVec Ideal S27x32x64 .fp8e4m3) (k : Fin 27) (o : Fin 64) (c : Fin 32) :
    stacked w (ix3 ⟨k.val, by omega⟩ o c) = w (ix3 k c o) := by
  refine Routing.scatter_set_hit _ _ _ _ _ _ (fun y hy => ?_) (ix3 k o c) ?_
  · rw [Routing.resultIdx?_eq_some] at hy
    idx_vars y
    have h0 := hy 0
    have h1 := hy 1
    have h2 := hy 2
    rw [land] at h0 h1 h2
    obtain rfl := Fin.ext (Int.ofNat.inj h0)
    obtain rfl := Fin.ext (Int.ofNat.inj h1)
    obtain rfl := Fin.ext (Int.ofNat.inj h2)
    pointwise
  · rw [Routing.resultIdx?_eq_some]
    intro a
    rw [land]
    fin_cases a <;> rfl

/-- The diagonal at an index. -/
theorem onDiag_apply (i j : Fin 8) : onDiag (ix2 i j) = if j = i then 1#1 else 0#1 := by
  revert i j
  decide +kernel

/-- The weights in blocks at an index: an offset's own weights on the diagonal of its block, zero off it. -/
theorem spread_apply (w : FVec Ideal S27x32x64 .fp8e4m3) (g : Fin 4) (i j : Fin 8) (o : Fin 64) (c : Fin 32) (h : 8 * g.val + i.val < 27) :
    spread w (ix5 g i o j c) = if j = i then w (ix3 ⟨8 * g.val + i.val, h⟩ c o) else (0 : EReal) := by
  have hs := stacked_apply w ⟨8 * g.val + i.val, h⟩ o c
  have h0 : Ideal.ofBits FTy.fp8e4m3 0#8 = 0 := Ideal.ofBits_zero _
  unfold spread
  pointwise
  rw [onDiag_apply, h0]
  have e : (⟨g.val * 8 + i.val, by omega⟩ : Fin 32) = ⟨8 * g.val + i.val, by omega⟩ := Fin.ext (by simp only; omega)
  rw [e, hs]
  by_cases hij : j = i
  · simp [hij, Scalar.select]
  · simp [hij, Scalar.select]

/-- The weight scales as the kernel gets them: every one of the 128 columns is the scales. -/
theorem V_ws (c : Dev nD) (k : Fin 27) (o : Fin 64) (l : Fin 128) :
    V m c main_v16 (ix3 k o l) = m ((c : Thread nD τ).loc main_arg3) (ix2 k o) := by
  unfold V
  simp only [hostOps0, hostOps0_1, hostOps0_2, List.flatten_cons, List.flatten_nil, List.append_nil, List.cons_append, List.nil_append]
  entry_read
  pointwise

/-- The bias as the kernel gets it: every one of the 128 columns is the bias. -/
theorem V_bb (c : Dev nD) (o : Fin 64) (l : Fin 128) :
    V m c main_v18 (ix2 o l) = m ((c : Thread nD τ).loc main_arg4) (ix1 o) := by
  unfold V
  simp only [hostOps0, hostOps0_1, hostOps0_2, List.flatten_cons, List.flatten_nil, List.append_nil, List.cons_append, List.nil_append]
  entry_read
  pointwise

/-- The weights as the kernel gets them: the blocks, flattened to rows and columns. -/
theorem V_spread (c : Dev nD) :
    V m c main_v14 = shapeCast S4x512x256 (spread (m ((c : Thread nD τ).loc main_arg2))) shapeCasts_S4x8x64x8x32_S4x512x256 := by
  unfold V
  simp only [hostOps0, hostOps0_1, hostOps0_2, List.flatten_cons, List.flatten_nil, List.append_nil, List.cons_append, List.nil_append]
  entry_read
  simp only [StableHlo.TRef.ofBuf_toBuf]
  simp only [StableHlo.TRef.ofBuf, StableHlo.TRef.toBuf, cast_eq]
  unfold spread stacked onDiag
  rfl

/-- The same at an index: row `64 i + o` of group `g` holds offset `8 g + i`'s weights in columns `32 i` to `32 i + 31`, and zero elsewhere. -/
theorem V_w (c : Dev nD) (g : Fin 4) (i : Fin 8) (o : Fin 64) (q : Fin 256) (h : 8 * g.val + i.val < 27) :
    V m c main_v14 (ix3 g ⟨64 * i.val + o.val, by omega⟩ q) =
      if q.val / 32 = i.val then m ((c : Thread nD τ).loc main_arg2) (ix3 ⟨8 * g.val + i.val, h⟩ ⟨q.val % 32, by omega⟩ o) else (0 : EReal) := by
  rw [V_spread]
  have hs := spread_apply (m ((c : Thread nD τ).loc main_arg2)) g i ⟨q.val / 32, by omega⟩ o ⟨q.val % 32, by omega⟩ h
  simp only [Fin.ext_iff] at hs
  rw [← hs]
  pointwise
end Cert.KernelIdeal.Conv
end
-- ==== Proof.Spec.lean ====
/- The convolution as plain mathematics: what both programs leave in their result. -/
module
public import proofs.«01_k».proof.Proof.Gen.KernelIdeal.Value
public import Idealize.ShloMosaic.Lib.Claim
public import Idealize.ShloMosaic.Lib.ValueIdx
public import Idealize.ShloMosaic.Lib.Pointwise
@[expose] public section
set_option maxRecDepth 16384
noncomputable section
namespace Cert.Conv
open Cert.KernelIdeal Idealize.ShloMosaic

/-- Channel `r` of voxel `n` of scene `b` as offset `k` sees it: byte `r % 4` of a word of the gathered rows, as a number. -/
def chan (xg : Vec Ideal S8x27x8192x128 .i32) (b : Fin 8) (k : Fin 27) (n : Fin 131072) (r : Fin 32) : EReal :=
  FloatOps.ofBits (F := Ideal) .fp8e4m3 (BitVec.extractLsb' (r.val % 4 * 8) 8
    (xg (ix4 b k ⟨128 * (n.val / 2048) + n.val % 128, by omega⟩ ⟨8 * (n.val % 2048 / 128) + r.val / 4, by omega⟩)))

/-- The result at scene `b`, output channel `o`, voxel `n`: per offset the scaled sum over the channels, these summed over the
    offsets, times the activations' scale, plus the bias. -/
def out (xg : Vec Ideal S8x27x8192x128 .i32) (xs : FVec Ideal S1 .f32) (w : FVec Ideal S27x32x64 .fp8e4m3) (ws : FVec Ideal S27x64 .f32)
    (bias : FVec Ideal S64 .f32) (b : Fin 8) (o : Fin 64) (n : Fin 131072) : EReal :=
  (∑ k : Fin 27, (∑ r : Fin 32, (w (ix3 k r o) : EReal) * chan xg b k n r) * ws (ix2 k o)) * xs (ix1 0) + bias (ix1 o)

/-- The whole result. -/
def result (xg : Vec Ideal S8x27x8192x128 .i32) (xs : FVec Ideal S1 .f32) (w : FVec Ideal S27x32x64 .fp8e4m3) (ws : FVec Ideal S27x64 .f32)
    (bias : FVec Ideal S64 .f32) : FVec Ideal S8x64x131072 .f32 :=
  fun j => out xg xs w ws bias (j 0) (j 1) (j 2)
end Cert.Conv
end
-- ==== Proof.KernelValue.lean ====
/- The kernel's result array is the convolution. -/
module
public import proofs.«01_k».proof.Proof.Block
public import proofs.«01_k».proof.Proof.Math
public import proofs.«01_k».proof.Proof.Host
public import proofs.«01_k».proof.Proof.Spec
@[expose] public section
set_option maxRecDepth 16384
noncomputable section
namespace Cert.KernelIdeal.Conv
open Cert.KernelIdeal Cert.KernelIdeal.Gen Idealize.ShloMosaic Idealize.ShloMosaic.TcCoe Idealize.SL.Sem
variable (m : (ℓ : Loc nD τ sig) → Buf (Elt Ideal) ℓ)

/-- The block of each window at each grid point. -/
theorem idx : ∀ t : Fin cfg0.N, win0_0.index t = ![0] ∧ win0_1.index t = ![t.val / 64, 0, t.val % 64, 0] ∧ win0_2.index t = ![0, 0, 0]
    ∧ win0_3.index t = ![0, 0, 0] ∧ win0_4.index t = ![0, 0] ∧ win0_5.index t = ![t.val / 64, 0, t.val % 64] :=
  (by decide +kernel : ∀ t : Fin grid0.N, _)

/-- An array read through a unit-stride rectangle, by coordinates. -/
theorem unit3 {α : Type} {A B C : Nat} (X : (⟨3, ![A, B, C]⟩ : Shape).Idx → α) (off size : Fin 3 → Nat)
    (h : ∀ a, off a + size a ≤ (⟨3, ![A, B, C]⟩ : Shape).size a) (x : (⟨3, size⟩ : Shape).Idx) (i : Fin A) (j : Fin B) (k : Fin C)
    (hi : off 0 + (x 0).val = i.val) (hj : off 1 + (x 1).val = j.val) (hk : off 2 + (x 2).val = k.val) :
    X ((Rect.unit (s := ⟨3, ![A, B, C]⟩) off size h).idx x) = X (ix3 i j k) := by
  refine congrArg X (funext fun a => Fin.ext ?_)
  refine (Rect.idx_unit_val _ _ h _ a).trans ?_
  match a with
  | ⟨0, _⟩ => exact hi
  | ⟨1, _⟩ => exact hj
  | ⟨2, _⟩ => exact hk

/-- A tile at an index, over arrays of the shapes the host hands the kernel: the convolution at the voxel the index stands for. -/
theorem tileOf_apply (x1 : Vec Ideal S1x27x128x128 .i32) (xs : FVec Ideal S1 .f32) (x2 : Vec Ideal S4x512x256 .fp8e4m3) (x3 : Vec Ideal S27x64x128 .f32)
    (x4 : Vec Ideal S64x128 .f32) (xg : Vec Ideal S8x27x8192x128 .i32) (w : FVec Ideal S27x32x64 .fp8e4m3) (ws : FVec Ideal S27x64 .f32) (bias : FVec Ideal S64 .f32)
    (b : Fin 8) (q : Fin 64)
    (h1 : ∀ k l r, x1 (ix4 0 k l r) = xg (ix4 b k ⟨128 * q.val + l.val, by omega⟩ r))
    (h2 : ∀ (g : Fin 4) (i : Fin 8) (o : Fin 64) (c : Fin 256) (h : 8 * g.val + i.val < 27), x2 (ix3 g ⟨64 * i.val + o.val, by omega⟩ c) =
      if c.val / 32 = i.val then w (ix3 ⟨8 * g.val + i.val, h⟩ ⟨c.val % 32, by omega⟩ o) else (0 : EReal))
    (h3 : ∀ k o l, x3 (ix3 k o l) = ws (ix2 k o)) (h4 : ∀ o l, x4 (ix2 o l) = bias (ix1 o))
    (t : Fin 8) (o : Fin 64) (v : Fin 256) :
    tileOf (XT x1) (xs (ix1 0)) x2 x3 x4 (16 * t.val) (by omega) (ix3 0 o v)
      = Cert.Conv.out xg xs w ws bias b o ⟨2048 * q.val + 256 * t.val + v.val, by omega⟩ := by
  unfold tileOf
  rw [tile_apply _ _ _ _ _ _ (fun k o r => w (ix3 k r o))]
  · unfold Cert.Conv.out term
    rw [h4]
    congr 2
    refine Finset.sum_congr rfl fun k _ => ?_
    congr 1
    · refine Finset.sum_congr rfl fun r _ => ?_
      congr 1
      have hv := v.isLt
      have hr := r.isLt
      have ht := t.isLt
      rw [pair_apply]
      unfold Cert.Conv.chan
      refine congrArg (fun z => FloatOps.ofBits (F := Ideal) .fp8e4m3 (BitVec.extractLsb' (r.val % 4 * 8) 8 z)) ?_
      have rd : ∀ (s : Nat) (hs : s + 8 ≤ 128), XT x1 ((rX k s hs).idx (ix3 0 ⟨r.val / 4, by omega⟩ ⟨v.val % 128, by omega⟩))
          = xg (ix4 b k ⟨128 * q.val + v.val % 128, by omega⟩ ⟨s + r.val / 4, by omega⟩) := fun s hs =>
        (unit3 (XT x1) _ _ _ _ k ⟨s + r.val / 4, by omega⟩ ⟨v.val % 128, by omega⟩ rfl rfl (Nat.zero_add _)).trans (h1 k ⟨v.val % 128, by omega⟩ _)
      split
      · rw [rd]
        congr 2 <;> simp only [Fin.mk.injEq] <;> omega
      · rw [rd]
        congr 2 <;> simp only [Fin.mk.injEq] <;> omega
    · exact (unit3 x3 _ _ _ _ k o ⟨v.val % 128, by omega⟩ rfl (Nat.zero_add _) (Nat.zero_add _)).trans (h3 k o _)
  · intro g i o c
    exact (unit3 x2 _ _ _ _ ⟨g.val, by omega⟩ ⟨64 * i.val + o.val, by omega⟩ c rfl (Nat.zero_add _) (Nat.zero_add _)).trans
      (h2 ⟨g.val, by omega⟩ i o c (by simp only; omega))
  · intro i o c
    exact (unit3 x2 _ _ _ _ 3 ⟨64 * i.val + o.val, by omega⟩ ⟨c.val, by omega⟩ rfl (Nat.zero_add _) (Nat.zero_add _)).trans
      (h2 3 ⟨i.val, by omega⟩ o ⟨c.val, by omega⟩ (by show 8 * 3 + i.val < 27; omega))

/-- The kernel's result array after its run: the convolution of its arguments. -/
theorem final (c : Dev nD) : (dats m 0 c).arrAt 5 cfg0.N
    = Cert.Conv.result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht : t.val < 512 := t.isLt
  blk_simp
  rw [after0_5]
  unfold outsAt0
  have h0 : iblk m c 0 t = m ((c : Thread nD τ).loc main_arg1) := by
    funext x
    idx_vars x
    blk_simp [iblk]
    rw [V_main_arg1]
    blk_ext [idx t]
  have h1 : ∀ (k : Fin 27) (l r : Fin 128), iblk m c 1 t (ix4 0 k l r)
      = m ((c : Thread nD τ).loc main_arg0) (ix4 ⟨t.val / 64, by omega⟩ k ⟨128 * (t.val % 64) + l.val, by omega⟩ r) := by
    intro k l r
    blk_simp [iblk]
    rw [V_main_arg0]
    blk_ext [idx t]
  have h2 : iblk m c 2 t = V m c main_v14 := by
    funext x
    idx_vars x
    blk_simp [iblk]
    blk_ext [idx t]
  have h3 : iblk m c 3 t = V m c main_v16 := by
    funext x
    idx_vars x
    blk_simp [iblk]
    blk_ext [idx t]
  have h4 : iblk m c 4 t = V m c main_v18 := by
    funext x
    idx_vars x
    blk_simp [iblk]
    blk_ext [idx t]
  refine out_at _ _ _ _ _ _ _ _ _ _ _ _ _ _ _ _ _ _ _ _ _ _ _ fun s hs x hx => ?_
  have hx0 : (y 0).val = 0 + (x 0).val := hx 0
  have hx1 : (y 1).val = 0 + (x 1).val := hx 1
  have hx2 : (y 2).val = 256 * s + (x 2).val := hx 2
  have hz : (x 0).val < 1 := (x 0).isLt
  rw [h0, h2, h3, h4]
  have hX : x = ix3 0 (x 1) (x 2) := by
    funext a
    match a with
    | ⟨0, _⟩ => exact Subsingleton.elim (α := Fin 1) _ _
    | ⟨1, _⟩ => rfl
    | ⟨2, _⟩ => rfl
  rw [hX]
  refine (tileOf_apply _ _ _ _ _ _ _ _ _ _ ⟨t.val % 64, by omega⟩ h1 (V_w m c) (V_ws m c) (V_bb m c) ⟨s, hs⟩ (x 1) (x 2)).trans ?_
  unfold Cert.Conv.result
  congr 1
  · refine Fin.ext ?_
    blk_simp [idx t]
  · refine Fin.ext ?_
    blk_simp [idx t]
    omega
  · refine Fin.ext ?_
    blk_simp [idx t]
    show 2048 * (t.val % 64) + 256 * s + (x 2).val = _
    omega
/-- The kernel's run: it ends with the convolution of its arguments in its result, the arguments as they were. -/
theorem run (ρ : Dev nD → PrngReg) : θ_run defs (onTc (τ := τ) (main (F := Ideal))) ⟨m, fun _ => 0, ρ⟩ fun r => ∀ c : Dev nD,
      r.2.mem ((c : Thread nD τ).loc main_v19) = Cert.Conv.result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Conv
end
-- ==== Proof.RefValue.lean ====
/- The reference's result array is the convolution. -/
module
public import proofs.«01_k».proof.Proof.Gen.ReferenceIdeal.Value
public import proofs.«01_k».proof.Proof.Spec
public import Idealize.ShloMosaic.Lib.Pipeline.ValueKit
public import Idealize.ShloMosaic.Lib.BitcastConvert
public import Idealize.ShloMosaic.Lib.Pipeline.ReadBack
@[expose] public section
set_option maxRecDepth 16384
noncomputable section
namespace Cert.ReferenceIdeal.Conv
open Cert.ReferenceIdeal Cert.ReferenceIdeal.Gen Idealize.ShloMosaic Idealize.ShloMosaic.TcCoe Idealize.SL.Sem
variable (m : (ℓ : Loc nD τ sig) → Buf (Elt Ideal) ℓ)

/-- The block of each window: the whole array. -/
theorem idx : ∀ t : Fin cfg0.N, win0_0.index t = ![0, 0, 0] ∧ win0_1.index t = ![0] ∧ win0_2.index t = ![0, 0, 0]
    ∧ win0_3.index t = ![0, 0] ∧ win0_4.index t = ![0, 0] ∧ win0_5.index t = ![0, 0, 0] :=
  (by decide +kernel : ∀ t : Fin grid0.N, _)

/-- Words split into bytes, read as rows of 32. -/
theorem bytes_row {α : Type} (y : S27x1048576x8x4.Idx → α) (k : Fin 27) (n : Fin 1048576) (r : Fin 32) :
    shapeCast S27x1048576x32 y shapeCasts_S27x1048576x8x4_S27x1048576x32 (ix3 k n r) = y (ix4 k n ⟨r.val / 4, by omega⟩ ⟨r.val % 4, by omega⟩) := by
  pointwise

/-- A row of words, by scene, block, column and lane. -/
theorem row_split {α : Type} (y : S27x8x64x16x128x8.Idx → α) (k : Fin 27) (n : Fin 1048576) (r : Fin 8) :
    shapeCast S27x1048576x8 y shapeCasts_S27x8x64x16x128x8_S27x1048576x8 (ix3 k n r)
      = y (ix6 k ⟨n.val / 131072, by omega⟩ ⟨n.val / 2048 % 64, by omega⟩ ⟨n.val / 128 % 16, by omega⟩ ⟨n.val % 128, by omega⟩ r) := by
  pointwise

/-- The gathered words regrouped by scene, block, column and lane. -/
theorem regroup {α : Type} (y : S8x27x8192x128.Idx → α) (k : Fin 27) (b : Fin 8) (q : Fin 64) (g : Fin 16) (l : Fin 128) (r : Fin 8) :
    transpose S27x8x64x16x128x8 [1, 0, 2, 4, 3, 5] (shapeCast S8x27x64x128x16x8 y shapeCasts_S8x27x8192x128_S8x27x64x128x16x8)
      transposes_S8x27x64x128x16x8_S27x8x64x16x128x8_1_0_2_4_3_5 (ix6 k b q g l r)
      = y (ix4 b k ⟨q.val * 128 + l.val, by omega⟩ ⟨g.val * 8 + r.val, by omega⟩) := by
  pointwise

/-- The rows of the product as scenes, voxels turned to the last axis. -/
theorem turn {α : Type} (y : S1048576x64.Idx → α) (b : Fin 8) (o : Fin 64) (n : Fin 131072) :
    transpose S8x64x131072 [0, 2, 1] (shapeCast S8x131072x64 y shapeCasts_S1048576x64_S8x131072x64) transposes_S8x131072x64_p0_2_1_S8x64x131072 (ix3 b o n)
      = y (ix2 ⟨b.val * 131072 + n.val, by omega⟩ o) := by
  pointwise

/-- The product of every offset at an index. -/
theorem prod_apply (x : FVec Ideal S27x1048576x32 .fp8e4m3) (w : FVec Ideal S27x32x64 .fp8e4m3) (k : Fin 27) (n : Fin 1048576) (o : Fin 64) :
    matmul dot_S27x1048576x32_S27x32x64_S27x1048576x64_2_1_1_2_0_0 none x w (constant S27x1048576x64 .f32 0x00000000#32) (ix3 k n o)
      = ∑ r : Fin 32, (x (ix3 k n r) : EReal) * w (ix3 k r o) := by
  pointwise

/-- The sum over the offsets at an index. -/
theorem sum_apply (p : FVec Ideal S27x1048576x64 .f32) (n : Fin 1048576) (o : Fin 64) :
    multiReduction .add [0] S1048576x64 p 0x00000000#32 reduces_S27x1048576x64_S1048576x64 (.inl rfl) rfl (ix2 n o) = ∑ k : Fin 27, (p (ix3 k n o) : EReal) := by
  pointwise

/-- The scales of the offsets, given to every voxel. -/
theorem scale_apply (v : FVec Ideal S27x64 .f32) (k : Fin 27) (n : Fin 1048576) (o : Fin 64) :
    broadcastTo S27x1048576x64 (shapeCast S27x1x64 v shapeCasts_S27x64_S27x1x64) broadcasts_S27x1x64_S27x1048576x64 (ix3 k n o) = v (ix2 k o) := by
  pointwise

/-- The bias, given to every voxel. -/
theorem bias_apply (v : FVec Ideal S1x64 .f32) (n : Fin 1048576) (o : Fin 64) :
    broadcastTo S1048576x64 (shapeCast S1x64 v shapeCasts_S1x64_S1x64) broadcasts_S1x64_S1048576x64 (ix2 n o) = v (ix2 0 o) := by
  pointwise

/-- The host's decoding of the gathered words. -/
def decoded (xg : Vec Ideal S8x27x8192x128 .i32) : FVec Ideal S27x1048576x32 .fp8e4m3 :=
  shapeCast S27x1048576x32 (bitcastToFloat .fp8e4m3 (Host.bitcastConvertNarrow S27x1048576x8x4 8
    (shapeCast S27x1048576x8 (transpose S27x8x64x16x128x8 [1, 0, 2, 4, 3, 5] (shapeCast S8x27x64x128x16x8 xg shapeCasts_S8x27x8192x128_S8x27x64x128x16x8)
      transposes_S8x27x64x128x16x8_S27x8x64x16x128x8_1_0_2_4_3_5) shapeCasts_S27x8x64x16x128x8_S27x1048576x8)
    splits_S27x1048576x8_w32_S27x1048576x8x4_w8)) shapeCasts_S27x1048576x8x4_S27x1048576x32

/-- Decoding at an index: the channel of the voxel. -/
theorem decoded_apply (xg : Vec Ideal S8x27x8192x128 .i32) (k : Fin 27) (b : Fin 8) (n : Fin 131072) (r : Fin 32) :
    decoded xg (ix3 k ⟨b.val * 131072 + n.val, by omega⟩ r) = Cert.Conv.chan xg b k n r := by
  have hn := n.isLt
  have hb := b.isLt
  have hr := r.isLt
  unfold decoded
  rw [bytes_row]
  generalize hz : shapeCast S27x1048576x8 _ shapeCasts_S27x8x64x16x128x8_S27x1048576x8 = z
  have e1 : ∀ (k : Fin 27) (n : Fin 1048576) (i : Fin 8) (j : Fin 4),
      bitcastToFloat (F := Ideal) .fp8e4m3 (Host.bitcastConvertNarrow S27x1048576x8x4 8 z splits_S27x1048576x8_w32_S27x1048576x8x4_w8) (ix4 k n i j)
        = FloatOps.ofBits (F := Ideal) .fp8e4m3 (BitVec.extractLsb' (j.val * 8) 8 (z (ix3 k n i))) := by
    intro k n i j
    have hd : splits_S27x1048576x8_w32_S27x1048576x8x4_w8.drop (ix4 k n i j) = ix3 k n i := by
      funext a
      match a with
      | ⟨0, _⟩ => rfl
      | ⟨1, _⟩ => rfl
      | ⟨2, _⟩ => rfl
    pointwise
    rw [hd]
  rw [e1, ← hz, row_split, regroup]
  unfold Cert.Conv.chan
  refine congrArg (fun z => FloatOps.ofBits (F := Ideal) .fp8e4m3 (BitVec.extractLsb' (r.val % 4 * 8) 8 (xg z))) ?_
  funext a
  match a with
  | ⟨0, _⟩ => refine Fin.ext ?_; show (b.val * 131072 + n.val) / 131072 = b.val; omega
  | ⟨1, _⟩ => rfl
  | ⟨2, _⟩ =>
    refine Fin.ext ?_
    show (b.val * 131072 + n.val) / 2048 % 64 * 128 + (b.val * 131072 + n.val) % 128 = 128 * (n.val / 2048) + n.val % 128
    omega
  | ⟨3, _⟩ =>
    refine Fin.ext ?_
    show (b.val * 131072 + n.val) / 128 % 16 * 8 + r.val / 4 = 8 * (n.val % 2048 / 128) + r.val / 4
    omega

/-- The reference's first operand: the decoded words. -/
theorem V_x (c : Dev nD) : V m c main_v4 = decoded (m ((c : Thread nD τ).loc main_arg0)) := by
  unfold V
  simp only [hostOps0, List.flatten_cons, List.flatten_nil, List.append_nil, List.cons_append, List.nil_append]
  entry_read
  unfold decoded
  rfl

/-- The reference's last operand: the bias as a row. -/
theorem V_b (c : Dev nD) (o : Fin 64) : V m c main_v5 (ix2 0 o) = m ((c : Thread nD τ).loc main_arg4) (ix1 o) := by
  unfold V
  simp only [hostOps0, List.flatten_cons, List.flatten_nil, List.append_nil, List.cons_append, List.nil_append]
  entry_read
  pointwise

/-- A product of two arrays at an index. -/
theorem mul_at {s : Shape} (A B : FVec Ideal s .f32) (i : s.Idx) : mulf A B i = ((A i : EReal) * B i : EReal) := rfl

/-- An array times a number plus an array, at an index. -/
theorem fma_at {s : Shape} (A B : FVec Ideal s .f32) (y : EReal) (i : s.Idx) :
    addf (mulf A (broadcast s (y : Ideal .f32))) B i = ((A i : EReal) * y + B i : EReal) := rfl

/-- The scaled products of every offset. -/
def scaled (x : FVec Ideal S27x1048576x32 .fp8e4m3) (w : FVec Ideal S27x32x64 .fp8e4m3) (ws : FVec Ideal S27x64 .f32) : FVec Ideal S27x1048576x64 .f32 :=
  mulf (matmul dot_S27x1048576x32_S27x32x64_S27x1048576x64_2_1_1_2_0_0 none x w (constant S27x1048576x64 .f32 0x00000000#32))
    (broadcastTo S27x1048576x64 (shapeCast S27x1x64 ws shapeCasts_S27x64_S27x1x64) broadcasts_S27x1x64_S27x1048576x64)

/-- The scaled products at an index. -/
theorem scaled_apply (x : FVec Ideal S27x1048576x32 .fp8e4m3) (w : FVec Ideal S27x32x64 .fp8e4m3) (ws : FVec Ideal S27x64 .f32)
    (k : Fin 27) (n : Fin 1048576) (o : Fin 64) :
    scaled x w ws (ix3 k n o) = ((∑ r : Fin 32, (w (ix3 k r o) : EReal) * x (ix3 k n r)) * ws (ix2 k o) : EReal) := by
  unfold scaled
  rw [mul_at, prod_apply, scale_apply]
  congr 1
  exact Finset.sum_congr rfl fun r _ => mul_comm _ _

/-- The rows of the result: the offsets' sum times the activations' scale, plus the bias. -/
def rows (p : FVec Ideal S27x1048576x64 .f32) (xs : EReal) (b : FVec Ideal S1x64 .f32) : FVec Ideal S1048576x64 .f32 :=
  addf (mulf (multiReduction .add [0] S1048576x64 p 0x00000000#32 reduces_S27x1048576x64_S1048576x64 (.inl rfl) rfl) (broadcast S1048576x64 (xs : Ideal .f32)))
    (broadcastTo S1048576x64 (shapeCast S1x64 b shapeCasts_S1x64_S1x64) broadcasts_S1x64_S1048576x64)

/-- The rows of the result at an index. -/
theorem rows_apply (p : FVec Ideal S27x1048576x64 .f32) (xs : EReal) (b : FVec Ideal S1x64 .f32) (n : Fin 1048576) (o : Fin 64) :
    rows p xs b (ix2 n o) = ((∑ k : Fin 27, (p (ix3 k n o) : EReal)) * xs + b (ix2 0 o) : EReal) := by
  unfold rows
  rw [fma_at, bias_apply, sum_apply]

/-- What the reference's body computes: the rows, turned. -/
theorem pay_eq (x : Vec Ideal S27x1048576x32 .fp8e4m3) (w : Vec Ideal S27x32x64 .fp8e4m3) (ws : Vec Ideal S27x64 .f32) (xs : EReal) (b : Vec Ideal S1x64 .f32) :
    k0_pay1 (F := Ideal) x w ws xs b
      = transpose S8x64x131072 [0, 2, 1] (shapeCast S8x131072x64 (rows (scaled x w ws) xs b) shapeCasts_S1048576x64_S8x131072x64) transposes_S8x131072x64_p0_2_1_S8x64x131072 := by
  unfold k0_pay1 rows scaled
  simp only [shapeCast_self]

/-- The same at an index. -/
theorem pay_apply (x : Vec Ideal S27x1048576x32 .fp8e4m3) (w : Vec Ideal S27x32x64 .fp8e4m3) (ws : Vec Ideal S27x64 .f32) (xs : EReal) (b : Vec Ideal S1x64 .f32)
    (sc : Fin 8) (o : Fin 64) (n : Fin 131072) :
    k0_pay1 (F := Ideal) x w ws xs b (ix3 sc o n)
      = (∑ k : Fin 27, (∑ r : Fin 32, (w (ix3 k r o) : EReal) * x (ix3 k ⟨sc.val * 131072 + n.val, by omega⟩ r)) * ws (ix2 k o)) * xs + b (ix2 0 o) := by
  rw [pay_eq, turn, rows_apply]
  simp only [scaled_apply]

/-- The first window's block is its whole array. -/
theorem whole0 (A : S27x1048576x32.Idx → Elt Ideal .fp8e4m3) : ((cfg0.win 0).blk t0_0).view.read (Elt Ideal) A = A := by
  funext x
  idx_vars x
  blk_simp []
  blk_ext [idx t0_0]

/-- The decoded words, as the body reads them. -/
theorem b0 (c : Dev nD) : iblk m c 0 t0_0 = decoded (m ((c : Thread nD τ).loc main_arg0)) :=
  (whole0 _).trans (V_x m c)

/-- What the reference's body computes over the decoded words: the convolution. -/
theorem pay_result (xg : Vec Ideal S8x27x8192x128 .i32) (xs : FVec Ideal S1 .f32) (w : FVec Ideal S27x32x64 .fp8e4m3) (ws : FVec Ideal S27x64 .f32)
    (bias : FVec Ideal S64 .f32) (B : FVec Ideal S1x64 .f32) (i : S1.Idx) (h : ∀ o : Fin 64, B (ix2 0 o) = bias (ix1 o)) (j : S8x64x131072.Idx) :
    k0_pay1 (F := Ideal) (decoded xg) w ws (xs i) B j = Cert.Conv.result xg xs w ws bias j := by
  have at3 : ∀ (sc : Fin 8) (o : Fin 64) (n : Fin 131072),
      k0_pay1 (F := Ideal) (decoded xg) w ws (xs (ix1 0)) B (ix3 sc o n) = Cert.Conv.out xg xs w ws bias sc o n := by
    intro sc o n
    rw [pay_apply, h]
    simp only [decoded_apply]
    rfl
  have hi : i = ix1 0 := funext fun a => match a with
    | ⟨0, _⟩ => Subsingleton.elim (α := Fin 1) _ _
  have hj : j = ix3 (j 0) (j 1) (j 2) := by
    funext a
    match a with
    | ⟨0, _⟩ => rfl
    | ⟨1, _⟩ => rfl
    | ⟨2, _⟩ => rfl
  rw [hi, hj]
  exact at3 (j 0) (j 1) (j 2)

/-- The reference's result array after its run: the convolution of its arguments. -/
theorem final (c : Dev nD) : (dats m 0 c).arrAt 5 cfg0.N
    = Cert.Conv.result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]
  unfold outsAt0
  frame_out
  have h1 : iblk m c 1 t0_0 = m ((c : Thread nD τ).loc main_arg1) := by
    rw [← V_main_arg1 m c]
    funext x
    idx_vars x
    blk_simp [iblk]
    blk_ext [idx t0_0]
  have h2 : iblk m c 2 t0_0 = m ((c : Thread nD τ).loc main_arg2) := by
    rw [← V_main_arg2 m c]
    funext x
    idx_vars x
    blk_simp [iblk]
    blk_ext [idx t0_0]
  have h3 : iblk m c 3 t0_0 = m ((c : Thread nD τ).loc main_arg3) := by
    rw [← V_main_arg3 m c]
    funext x
    idx_vars x
    blk_simp [iblk]
    blk_ext [idx t0_0]
  have h4 : ∀ o : Fin 64, iblk m c 4 t0_0 (ix2 0 o) = m ((c : Thread nD τ).loc main_arg4) (ix1 o) := by
    intro o
    rw [← V_b m c]
    blk_simp [iblk]
    blk_ext [idx t0_0]
  rw [b0, h1, h2, h3]
  generalize iblk m c 4 t0_0 = B at h4 ⊢
  rw [read_unread_whole, read_unread_whole, read_unread_whole, read_unread_whole, read_unread_whole]
  exact pay_result _ _ _ _ _ _ _ h4 j

/-- The reference's run: it ends with the convolution of its arguments in its result, the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = Cert.Conv.result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.Conv
end
-- ==== Proof.TableSpec.lean ====
/- The table of words as plain data movement: what the packing call and its reference both leave in their result. -/
module
public import proofs.«01_k».proof.Proof.Gen.Table.Value
public import Idealize.ShloMosaic.Lib.Claim
public import Idealize.ShloMosaic.Lib.ValueIdx
public import Idealize.ShloMosaic.Lib.Pointwise
@[expose] public section
set_option maxRecDepth 16384
noncomputable section
namespace Cert.Words
open Cert.Table Idealize.ShloMosaic

/-- Four bytes as one word, the first byte lowest. -/
def join (e : Fin 4 → BitVec 8) : BitVec 32 := e 3 ++ e 2 ++ e 1 ++ e 0

/-- Bit `q` of the word is bit `q % 8` of byte `q / 8`. -/
theorem join_bit (e : Fin 4 → BitVec 8) (q : Nat) (hq : q < 32) : (join e).getLsbD q = (e ⟨q / 8, by omega⟩).getLsbD (q % 8) := by
  unfold join
  simp only [BitVec.getLsbD_append]
  interval_cases q <;> rfl

variable {F : FTy → Type} [BitOps F]

/-- Word `r` of voxel `n` of scene `b`: the codes of its channels `4 r` to `4 r + 3`. -/
def word (x : FVec F S8x131072x32 .fp8e4m3) (b : Fin 8) (n : Fin 131072) (r : Fin 8) : BitVec 32 :=
  join fun k => BitOps.toBits (x (ix3 b n ⟨r.val * 4 + k.val, by omega⟩))

/-- Column `l` of row `i` of scene `b`: below row 8192, row `128 q + p` holds in columns `8 g` to `8 g + 7` the words of voxel
    `2048 q + 128 g + p`; the rows from 8192 on are zero. -/
def entry (x : FVec F S8x131072x32 .fp8e4m3) (b : Fin 8) (i : Fin 8320) (l : Fin 128) : BitVec 32 :=
  if h : i.val < 8192 then word x b ⟨2048 * (i.val / 128) + 128 * (l.val / 8) + i.val % 128, by omega⟩ ⟨l.val % 8, by omega⟩ else 0#32

/-- The whole table. -/
def result (x : FVec F S8x131072x32 .fp8e4m3) : Vec F S8x8320x128 .i32 := fun j => entry x (j 0) (j 1) (j 2)
end Cert.Words
end
-- ==== Proof.TableValue.lean ====
/- The packing call's result array is the table of words. -/
module
public import proofs.«01_k».proof.Proof.TableSpec
public import Idealize.ShloMosaic.Lib.BitcastPair
public import Idealize.ShloMosaic.Lib.WholeRead
public import Idealize.ShloMosaic.Lib.Pipeline.ValueKit
@[expose] public section
set_option maxRecDepth 16384
noncomputable section
namespace Cert.Table.Words
open Cert.Table Cert.Table.Gen Idealize.ShloMosaic Idealize.ShloMosaic.TcCoe Idealize.SL.Sem
variable {F : FTy → Type} [BitOps F]
variable (m : (ℓ : Loc nD τ sig) → Buf (Elt F) ℓ)

/-- The block of each window at each grid point. -/
theorem idx : ∀ t : Fin cfg0.N, win0_0.index t = ![t.val / 65, 0, min (t.val % 65) 63] ∧ win0_1.index t = ![t.val / 65, t.val % 65, 0] :=
  (by decide +kernel : ∀ t : Fin grid0.N, _)

/-- 32 rows of codes read as eight rows of words: word row `r` holds the code rows `4 r` to `4 r + 3`, the first lowest. -/
theorem packed (y : FVec F S32x2048 .fp8e4m3) (r : Fin 8) (n : Fin 2048) :
    bitcast S8x2048 32 (bitcastToInt y) bitcasts_S32x2048_w8_S8x2048_w32 (ix2 r n)
      = Cert.Words.join fun k => BitOps.toBits (y (ix2 ⟨r.val * 4 + k.val, by omega⟩ n)) := by
  apply BitVec.eq_of_getLsbD_eq
  intro q hq
  rw [Cert.Words.join_bit _ q hq]
  refine (bitcast_getLsbD _ _ _ q hq (by decide)).trans ?_
  have hrow : Shape.row S8x2048 (ix2 r n) = r.val := rfl
  have e : ∀ (p s : Nat) (hp) (e1 : p = r.val * 4 + q / 8) (e2 : s = q % 8),
      (bitcastToInt y (Shape.Bitcasts.srcIdx bitcasts_S32x2048_w8_S8x2048_w32 (ix2 r n) p hp)).getLsbD s
        = (BitOps.toBits (y (ix2 ⟨r.val * 4 + q / 8, by omega⟩ n))).getLsbD (q % 8) := by
    intro p s hp e1 e2
    subst e2
    have h2 : Shape.Bitcasts.srcIdx bitcasts_S32x2048_w8_S8x2048_w32 (ix2 r n) p hp = ix2 ⟨r.val * 4 + q / 8, by omega⟩ n := by
      funext a
      match a with
      | ⟨0, _⟩ => exact Fin.ext ((Shape.Bitcasts.srcIdx_row _ _ _ _ ⟨0, Nat.zero_lt_two⟩ rfl).trans e1)
      | ⟨1, _⟩ => exact Fin.ext (Shape.Bitcasts.srcIdx_other _ _ _ _ ⟨1, Nat.one_lt_two⟩ (by show ¬ 1 + 2 = 2; omega))
    rw [h2]
    rfl
  refine e _ _ _ ?_ ?_
  · show (Shape.row S8x2048 (ix2 r n) * 32 + q) / 8 = _
    rw [hrow]; omega
  · show (Shape.row S8x2048 (ix2 r n) * 32 + q) % 8 = _
    rw [hrow]; omega

/-- Sixteen groups of eight rows, stacked, at an index. -/
theorem stack {α : Type} (x : Fin 16 → S8x128.Idx → α) (i l : Fin 128) :
    concatenate S128x128 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩,
      ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩]
      concatenates_S8x128_S8x128_S8x128_S8x128_S8x128_S8x128_S8x128_S8x128_S8x128_S8x128_S8x128_S8x128_S8x128_S8x128_S8x128_S8x128_S128x128_d0 (ix2 i l) = x ⟨i.val / 8, by omega⟩ (ix2 ⟨i.val % 8, by omega⟩ l) := by
  refine concatenate_ofFn_apply (t := S128x128) (s₁ := S8x128) 0 x concatenates_S8x128_S8x128_S8x128_S8x128_S8x128_S8x128_S8x128_S8x128_S8x128_S8x128_S8x128_S8x128_S8x128_S8x128_S8x128_S8x128_S128x128_d0 rfl 8 rfl (ix2 i l) _ rfl _ rfl ?_
  intro b hb
  match b with
  | ⟨0, _⟩ => exact absurd rfl hb
  | ⟨1, _⟩ => rfl

/-- Group `g` of 128 columns of the words is inside them. -/
theorem cut (g : Fin 16) : S8x2048.Slices ![0, 128 * g.val] S8x128 := by revert g; decide

/-- What the body stores of a block of codes, at an index. -/
theorem pay_apply (x : Vec F S1x32x2048 .fp8e4m3) (p l : Fin 128) :
    k0_pay2 x (ix3 0 p l) = Cert.Words.join fun k => BitOps.toBits (x (ix3 0 ⟨l.val % 8 * 4 + k.val, by omega⟩ ⟨128 * (l.val / 8) + p.val, by omega⟩)) := by
  have hy : ∀ (c : Fin 32) (n : Fin 2048), shapeCast S32x2048 x shapeCasts_S1x32x2048_S32x2048 (ix2 c n) = x (ix3 0 c n) := by
    intro c n
    pointwise
  unfold k0_pay2
  dsimp only
  generalize hz : bitcast S8x2048 32 _ bitcasts_S32x2048_w8_S8x2048_w32 = z
  have hzv : ∀ (r : Fin 8) (n : Fin 2048), z (ix2 r n) = Cert.Words.join fun k => BitOps.toBits (x (ix3 0 ⟨r.val * 4 + k.val, by omega⟩ n)) := by
    intro r n
    rw [← hz, packed]
    simp only [hy]
  have ht : ∀ w : S128x128.Idx → BitVec 32, shapeCast S1x128x128 (transpose S128x128 [1, 0] w transposes_S128x128_p1_0_S128x128) shapeCasts_S128x128_S1x128x128
      (ix3 0 p l) = w (ix2 l p) := by
    intro w
    pointwise
  rw [ht]
  refine (stack (fun g => extractStridedSlice S8x128 ![0, 128 * g.val] z (cut g)) l p).trans ?_
  refine Eq.trans ?_ (hzv ⟨l.val % 8, by omega⟩ ⟨128 * (l.val / 8) + p.val, by omega⟩)
  show z _ = z _
  refine congrArg z (funext fun a => Fin.ext ?_)
  match a with
  | ⟨0, _⟩ => exact Nat.zero_add _
  | ⟨1, _⟩ => rfl

/-- A point that packs a block leaves the packed block. -/
theorem outA (c : Dev nD) (i : grid0.Coords) (arg2 : Memref sig .tc .vmem S1x32x2048 .fp8e4m3) (harg2 : arg2.IsWhole) (arg3 : Memref sig .tc .vmem S1x128x128 .i32) (harg3 : arg3.IsWhole) (hc0 : ¬cond0_0 i) (hc1 : cond0_1 i)
    (x0 : Vec F S1x32x2048 .fp8e4m3) : out0_A_1 c i arg2 harg2 arg3 harg3 hc0 hc1 x0 = k0_pay2 x0 := by
  funext y
  unfold out0_A_1
  rw [View.read_writes_junk_eq_canon]
  refine View.canon_eq_of_allAt _ y _ (cover0_A_1 c i arg2 harg2 arg3 harg3 hc0 hc1 x0 y) ?_
  refine View.allAt_cons_unit _ _ _ _ _ ?_ (View.allAt_nil _ _)
  intro x hx
  have hX : x = y := funext fun a => Fin.ext (by
    have := hx a
    match a with
    | ⟨0, _⟩ => exact (this.trans (Nat.zero_add _)).symm
    | ⟨1, _⟩ => exact (this.trans (Nat.zero_add _)).symm
    | ⟨2, _⟩ => exact (this.trans (Nat.zero_add _)).symm)
  subst hX
  refine congrFun (congrArg k0_pay2 (funext fun z => ?_)) x
  refine (harg2.readAt_unread x0 _ _).trans (congrArg x0 (funext fun a => Fin.ext ?_))
  refine (Rect.idx_unit_val _ _ _ _ a).trans ?_
  match a with
  | ⟨0, _⟩ => exact Nat.zero_add _
  | ⟨1, _⟩ => exact Nat.zero_add _
  | ⟨2, _⟩ => exact Nat.zero_add _

/-- The last point of a scene leaves zeros. -/
theorem outB (c : Dev nD) (i : grid0.Coords) (arg2 : Memref sig .tc .vmem S1x32x2048 .fp8e4m3) (harg2 : arg2.IsWhole) (arg3 : Memref sig .tc .vmem S1x128x128 .i32) (harg3 : arg3.IsWhole) (hc0 : cond0_0 i) (hc1 : ¬cond0_1 i)
    (x0 : Vec F S1x32x2048 .fp8e4m3) (y : S1x128x128.Idx) : out0_B_1 c i arg2 harg2 arg3 harg3 hc0 hc1 x0 y = 0#32 := by
  unfold out0_B_1
  rw [View.read_writes_junk_eq_canon]
  refine View.canon_eq_of_allAt _ y _ (cover0_B_1 c i arg2 harg2 arg3 harg3 hc0 hc1 x0 y) ?_
  refine View.allAt_cons_unit _ _ _ _ _ ?_ (View.allAt_nil _ _)
  intro x hx
  rfl

/-- The call's operand: the codes, channels before voxels. -/
theorem V_x (c : Dev nD) : V m c main_v0 = transpose S8x32x131072 [0, 2, 1] (m ((c : Thread nD τ).loc main_arg0)) transposes_S8x131072x32_S8x32x131072_0_2_1 := by
  unfold V
  simp only [hostOps0, List.flatten_cons, List.flatten_nil, List.append_nil, List.cons_append, List.nil_append]
  entry_read
  rfl

/-- The codes, channels before voxels, at an index. -/
theorem turned {α : Type} (y : S8x131072x32.Idx → α) (b : Fin 8) (c : Fin 32) (n : Fin 131072) :
    transpose S8x32x131072 [0, 2, 1] y transposes_S8x131072x32_S8x32x131072_0_2_1 (ix3 b c n) = y (ix3 b n c) := by
  pointwise

/-- The input block of a point, at an index: the codes of the point's 2048 voxels. -/
theorem block (c : Dev nD) (t : Fin cfg0.N) (ch : Fin 32) (n : Fin 2048) :
    iblk m c 0 t (ix3 0 ch n) = m ((c : Thread nD τ).loc main_arg0) (ix3 ⟨t.val / 65, by have : t.val < 520 := t.isLt; omega⟩
      ⟨2048 * min (t.val % 65) 63 + n.val, by omega⟩ ch) := by
  have ht : t.val < 520 := t.isLt
  have hV : ∀ (A : S8x32x131072.Idx → Elt F .fp8e4m3), ((cfg0.win 0).blk t).view.read (Elt F) A (ix3 0 ch n)
      = A (ix3 ⟨t.val / 65, by omega⟩ ch ⟨2048 * min (t.val % 65) 63 + n.val, by omega⟩) := by
    intro A
    blk_simp
    blk_ext [idx t]
  refine (hV _).trans ?_
  refine (congrFun (V_x m c) _).trans ?_
  exact turned _ _ _ _

/-- The packing call's result array after its run: the table of words of its argument. -/
theorem final (c : Dev nD) : (dats m 0 c).arrAt 1 cfg0.N = Cert.Words.result (m ((c : Thread nD τ).loc main_arg0)) := by
  refine (dats m 0 c).arrAt_eq_of_covers 1 _ (by decide +kernel) fun t _ y => ?_
  have ht : t.val < 520 := t.isLt
  blk_simp
  rw [after0_1]
  unfold Cert.Words.result
  have key : ∀ (B : Fin 8) (I : Fin 8320) (L : Fin 128), B.val = t.val / 65 → I.val = 128 * (t.val % 65) + (y 1).val → L.val = (y 2).val →
      outsAt0 m c t.val t.isLt y = Cert.Words.entry (m ((c : Thread nD τ).loc main_arg0)) B I L := by
    intro B I L hB hI hL
    have hy1 : (y 1).val < 128 := (y 1).isLt
    by_cases h : t.val % 65 = 64
    · rw [outsAt0_B m c t h (by omega), outB]
      unfold Cert.Words.entry
      rw [dif_neg (by omega)]
    · rw [outsAt0_A m c t h (by omega), outA]
      have hY : y = ix3 0 (y 1) (y 2) := by
        funext a
        match a with
        | ⟨0, _⟩ => exact Subsingleton.elim (α := Fin 1) _ _
        | ⟨1, _⟩ => rfl
        | ⟨2, _⟩ => rfl
      refine (congrArg (k0_pay2 (iblk m c 0 t)) hY).trans ((pay_apply _ (y 1) (y 2)).trans ?_)
      unfold Cert.Words.entry Cert.Words.word
      rw [dif_pos (by omega)]
      refine congrArg Cert.Words.join (funext fun k => ?_)
      rw [block]
      refine congrArg (fun z => BitOps.toBits (m ((c : Thread nD τ).loc main_arg0) z)) (funext fun a => Fin.ext ?_)
      match a with
      | ⟨0, _⟩ => exact hB.symm
      | ⟨1, _⟩ =>
        show 2048 * min (t.val % 65) 63 + (128 * ((y 2).val / 8) + (y 1).val) = 2048 * (I.val / 128) + 128 * (L.val / 8) + I.val % 128
        rw [hL, hI]
        omega
      | ⟨2, _⟩ =>
        show (y 2).val % 8 * 4 + k.val = L.val % 8 * 4 + k.val
        rw [hL]
  refine key _ _ _ ?_ ?_ ?_
  · blk_simp [idx t]
  · blk_simp [idx t]
    omega
  · blk_simp [idx t]

/-- The packing call's run: it ends with the table of words of its argument in its result, the argument as it was. -/
theorem run (ρ : Dev nD → PrngReg) : θ_run defs (onTc (τ := τ) (main (F := F))) ⟨m, fun _ => 0, ρ⟩ fun r => ∀ c : Dev nD,
      r.2.mem ((c : Thread nD τ).loc main_v1) = Cert.Words.result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Table.Words
end
-- ==== Proof.TableRefValue.lean ====
/- The reference's result is the table of words. -/
module
public import proofs.«01_k».proof.Proof.TableSpec
public import proofs.«01_k».proof.Proof.Gen.TableReference.Run
public import Idealize.ShloMosaic.Lib.BitcastConvert
@[expose] public section
set_option maxRecDepth 16384
noncomputable section
namespace Cert.TableReference.Words
open Cert.TableReference Cert.TableReference.Gen Idealize.ShloMosaic Idealize.ShloMosaic.TcCoe Idealize.SL.Sem
variable {F : FTy → Type} [BitOps F]

/-- Rows of 32 channels read as eight groups of four. -/
theorem four {α : Type} (y : S8x131072x32.Idx → α) (b : Fin 8) (n : Fin 131072) (r : Fin 8) (k : Fin 4) :
    shapeCast S8x131072x8x4 y shapeCasts_S8x131072x32_S8x131072x8x4 (ix4 b n r k) = y (ix3 b n ⟨r.val * 4 + k.val, by omega⟩) := by
  pointwise

/-- Words of voxels, by block, column and lane. -/
theorem split {α : Type} (y : S8x131072x8.Idx → α) (b : Fin 8) (q : Fin 64) (g : Fin 16) (p : Fin 128) (r : Fin 8) :
    shapeCast S8x64x16x128x8 y shapeCasts_S8x131072x8_S8x64x16x128x8 (ix5 b q g p r)
      = y (ix3 b ⟨q.val * 2048 + g.val * 128 + p.val, by omega⟩ r) := by
  pointwise

/-- Those words with the lanes before the columns, read as rows of 128 words. -/
theorem rows {α : Type} (y : S8x64x16x128x8.Idx → α) (b : Fin 8) (i : Fin 8192) (l : Fin 128) :
    shapeCast S8x8192x128 (transpose S8x64x128x16x8 [0, 1, 3, 2, 4] y transposes_S8x64x16x128x8_S8x64x128x16x8_0_1_3_2_4)
      shapeCasts_S8x64x128x16x8_S8x8192x128 (ix3 b i l)
      = y (ix5 b ⟨i.val / 128, by omega⟩ ⟨l.val / 8, by omega⟩ ⟨i.val % 128, by omega⟩ ⟨l.val % 8, by omega⟩) := by
  pointwise

/-- Four codes widened to a word. -/
theorem widen (y : FVec F S8x131072x8x4 .fp8e4m3) (b : Fin 8) (n : Fin 131072) (r : Fin 8) :
    Host.bitcastConvertWiden S8x131072x8 32 (bitcastToInt y) splits_S8x131072x8_w32_S8x131072x8x4_w8 (ix3 b n r)
      = Cert.Words.join fun k => BitOps.toBits (y (ix4 b n r k)) := by
  apply BitVec.eq_of_getLsbD_eq
  intro q hq
  rw [Cert.Words.join_bit _ q hq]
  refine (Host.bitcastConvertWiden_getLsbD _ _ _ _ _ q hq).trans ?_
  have hd : splits_S8x131072x8_w32_S8x131072x8x4_w8.snoc (ix3 b n r) ⟨q / 8, splits_S8x131072x8_w32_S8x131072x8x4_w8.div_lt hq⟩
      = ix4 b n r ⟨q / 8, by omega⟩ := by
    funext a
    match a with
    | ⟨0, _⟩ => rfl
    | ⟨1, _⟩ => rfl
    | ⟨2, _⟩ => rfl
    | ⟨3, _⟩ => rfl
  exact congrArg (fun z => (BitOps.toBits (y z)).getLsbD (q % 8)) hd

/-- Rows followed by 128 rows of zeros, at an index. -/
theorem padded (y : IVec S8x8192x128 32) (b : Fin 8) (i : Fin 8320) (l : Fin 128) :
    concatenate S8x8320x128 1 [⟨S8x8192x128, y⟩, ⟨S8x128x128, broadcastInDim S8x128x128 ![] bcast_S_S8x128x128 (constantI S_ 32 0#32)⟩]
      concatenates_S8x8192x128_S8x128x128_S8x8320x128_d1 (ix3 b i l)
      = if h : i.val < 8192 then y (ix3 b ⟨i.val, h⟩ l) else 0#32 := by
  pointwise

/-- What the reference computes: the table of words. -/
theorem value (x : FVec F S8x131072x32 .fp8e4m3) :
    concatenate S8x8320x128 1 [⟨S8x8192x128, shapeCast S8x8192x128 (transpose S8x64x128x16x8 [0, 1, 3, 2, 4]
        (shapeCast S8x64x16x128x8 (Host.bitcastConvertWiden S8x131072x8 32 (bitcastToInt (shapeCast S8x131072x8x4 x shapeCasts_S8x131072x32_S8x131072x8x4))
          splits_S8x131072x8_w32_S8x131072x8x4_w8) shapeCasts_S8x131072x8_S8x64x16x128x8)
        transposes_S8x64x16x128x8_S8x64x128x16x8_0_1_3_2_4) shapeCasts_S8x64x128x16x8_S8x8192x128⟩,
      ⟨S8x128x128, broadcastInDim S8x128x128 ![] bcast_S_S8x128x128 (constantI S_ 32 0#32)⟩]
      concatenates_S8x8192x128_S8x128x128_S8x8320x128_d1 = Cert.Words.result x := by
  generalize hz : shapeCast S8x8192x128 _ shapeCasts_S8x64x128x16x8_S8x8192x128 = z
  have hzv : ∀ (b : Fin 8) (i : Fin 8192) (l : Fin 128), z (ix3 b i l)
      = Cert.Words.word x b ⟨2048 * (i.val / 128) + 128 * (l.val / 8) + i.val % 128, by omega⟩ ⟨l.val % 8, by omega⟩ := by
    intro b i l
    rw [← hz, rows, split, widen]
    unfold Cert.Words.word
    refine congrArg Cert.Words.join (funext fun k => ?_)
    rw [four]
    refine congrArg (fun n => BitOps.toBits (x (ix3 b n ⟨l.val % 8 * 4 + k.val, by omega⟩))) (Fin.ext ?_)
    show i.val / 128 * 2048 + l.val / 8 * 128 + i.val % 128 = 2048 * (i.val / 128) + 128 * (l.val / 8) + i.val % 128
    omega
  have at3 : ∀ (b : Fin 8) (i : Fin 8320) (l : Fin 128),
      concatenate S8x8320x128 1 [⟨S8x8192x128, z⟩, ⟨S8x128x128, broadcastInDim S8x128x128 ![] bcast_S_S8x128x128 (constantI S_ 32 0#32)⟩]
        concatenates_S8x8192x128_S8x128x128_S8x8320x128_d1 (ix3 b i l) = Cert.Words.entry x b i l := by
    intro b i l
    rw [padded]
    unfold Cert.Words.entry
    split
    · rw [hzv]
    · rfl
  funext j
  idx_vars j
  exact at3 _ _ _

variable (m : (ℓ : Loc nD τ sig) → Buf (Elt F) ℓ)

/-- The reference's run: it ends with the table of words of its argument in its result, the argument as it was. -/
theorem run (ρ : Dev nD → PrngReg) : θ_run defs (onTc (τ := τ) (main (F := F))) ⟨m, fun _ => 0, ρ⟩ fun r => ∀ c : Dev nD,
      r.2.mem ((c.tc : Thread nD τ).loc main_v6) = Cert.Words.result (m ((c.tc : Thread nD τ).loc main_arg0))
      ∧ r.2.mem ((c.tc : Thread nD τ).loc main_arg0) = m ((c.tc : Thread nD τ).loc main_arg0) :=
  (θ_run defs _ _).mono (fun r h c => ⟨(h c).1.trans (value _), (h c).2⟩) (Value.run m ρ)

end Cert.TableReference.Words
end
-- ==== Proof.lean ====
module

public import proofs.«01_k».proof.Proof.Gen.KernelIdeal.Value
public import proofs.«01_k».proof.Proof.Gen.ReferenceIdeal.Value
public import proofs.«01_k».proof.Proof.Gen.Table.Value
public import proofs.«01_k».proof.Proof.Gen.TableReference.Run
public import proofs.«01_k».proof.Defs
public import proofs.«01_k».proof.Proof.Gen.Kernel.Frame
public import proofs.«01_k».proof.Proof.Gen.Table.Frame
public import proofs.«01_k».proof.Proof.KernelValue
public import proofs.«01_k».proof.Proof.RefValue
public import proofs.«01_k».proof.Proof.TableValue
public import proofs.«01_k».proof.Proof.TableRefValue
public import Idealize.ShloMosaic.Lib.Claim

@[expose] public section

set_option maxRecDepth 16384

open Idealize.ShloMosaic Idealize.ShloMosaic.TcCoe Idealize.SL.Sem

/-- Kernel and reference, from equal arguments, end with equal results over the extended reals. -/
theorem Cert.Proof.algebraic : Cert.algebraic_KernelIdeal_ReferenceIdeal := by
  intro m g m' g' _ hagree
  refine ⟨_, Cert.KernelIdeal.Conv.run m g, ?_⟩
  refine (θ_run _ _ _).mono (fun r h c => ⟨(h c).1.trans ?_, (h c).2⟩) (Cert.ReferenceIdeal.Conv.run m' g')
  obtain ⟨a0, a1, a2, a3, a4⟩ := hagree c
  rw [a0, a1, a2, a3, a4]

/-- The packing call and its reference, from equal codes, end with equal tables of words, bit for bit. -/
theorem Cert.Proof.bitexact : Cert.bitexact_Table_TableReference := by
  intro m g m' g' _ hagree
  refine ⟨_, Cert.Table.Words.run m g, ?_⟩
  refine (θ_run _ _ _).mono (fun r h c => ⟨(h c).1.trans ?_, (h c).2⟩) (Cert.TableReference.Words.run m' g')
  rw [hagree c]

/-- The packing's reference terminates without fault, leaves its argument as it was and has no semaphore to leave set. -/
theorem Cert.Proof.frame_TableReference : Cert.quiescent_TableReference := fun m ρ _ =>
  (θ_run _ _ _).mono (fun r h => ⟨fun c => (h c).2, sem_eq_zero_of_no_sems (by decide) r.2⟩) (Cert.TableReference.Words.run m ρ)

/-- Everything the certificate claims. -/
theorem Cert.Proof.claim : Cert.Claim :=
  ⟨Cert.Kernel.Gen.facts, Cert.KernelIdeal.Gen.facts, Cert.ReferenceIdeal.Gen.facts, Cert.Table.Gen.facts, Cert.TableReference.Gen.facts,
    fun m ρ _ => Cert.Kernel.Gen.frame m ρ, fun m ρ _ => Cert.KernelIdeal.Gen.frame m ρ, fun m ρ _ => Cert.ReferenceIdeal.Gen.frame m ρ,
    fun m ρ _ => Cert.Table.Gen.frame m ρ, Cert.Proof.frame_TableReference,
    trivial, Cert.Proof.algebraic, Cert.Proof.bitexact⟩
